-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2, 4] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S4 : Shape := ⟨1, ![4]⟩
abbrev S1024x1 : Shape := ⟨2, ![1024, 1]⟩
abbrev S1x4 : Shape := ⟨2, ![1, 4]⟩
abbrev S1024x4 : Shape := ⟨2, ![1024, 4]⟩
abbrev S_ : Shape := ⟨0, ![]⟩

class Facts : Prop where
  bcast_S1024_S1024x1_0 : S1024.BroadcastsInDim S1024x1 (![0] : Fin 1 → Fin S1024x1.rank)
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  natLt_1_32 : 1 < 32
  reducesTo_S1024x4_S4_d0 : S1024x4.ReducesTo [0] S4
  h_S_ : 0 < S_.numel
  bcast_S_S1024 : S_.BroadcastsInDim S1024 (![] : Fin 0 → Fin S1024.rank)
  reducesTo_S1024_S_d0 : S1024.ReducesTo [0] S_
  bcast_S_S4 : S_.BroadcastsInDim S4 (![] : Fin 0 → Fin S4.rank)
  reducesTo_S4_S_d0 : S4.ReducesTo [0] S_

variable [Facts]

def fn {F : FTy → Type} [FloatOps F] (main_arg0 : FVec F S1024x1024 .f32) (main_arg1 : IVec S1024 32) (main_arg2 : FVec F S2x1024x2048 .f32) (main_arg3 : FVec F S2x2048x1024 .f32) : IVec S_ 1 :=
  let main_v0 : IVec S4 32 := iotaInDim S4 32 0
  let main_v1 : IVec S1024x1 32 := broadcastInDim S1024x1 ![0] bcast_S1024_S1024x1_0 main_arg1
  let main_v2 : IVec S1x4 32 := broadcastInDim S1x4 ![1] bcast_S4_S1x4_1 main_v0
  let main_v3 : IVec S1024x4 32 := broadcastInDim S1024x4 ![0, 1] bcast_S1024x1_S1024x4_0_1 main_v1
  let main_v4 : IVec S1024x4 32 := broadcastInDim S1024x4 ![0, 1] bcast_S1x4_S1024x4_0_1 main_v2
  let main_v5 : IVec S1024x4 1 := cmpi .eq main_v3 main_v4
  let main_v6 : IVec S1024x4 32 := (extui 32 · natLt_1_32) main_v5
  let main_c : IVec S_ 32 := constantI S_ 32 0#32
  let main_v7 : IVec S4 32 := (fun x v => Host.reduce IntOp.addi x v reducesTo_S1024x4_S4_d0 h_S_) main_v6 main_c
  let main_c_0 : IVec S_ 32 := constantI S_ 32 0#32
  let main_v8 : IVec S1024 32 := broadcastInDim S1024 ![] bcast_S_S1024 main_c_0
  let main_v9 : IVec S1024 1 := cmpi .sge main_arg1 main_v8
  let main_c_1 : IVec S_ 32 := constantI S_ 32 4#32
  let main_v10 : IVec S1024 32 := broadcastInDim S1024 ![] bcast_S_S1024 main_c_1
  let main_v11 : IVec S1024 1 := cmpi .slt main_arg1 main_v10
  let main_v12 : IVec S1024 1 := andi main_v9 main_v11
  let main_c_2 : IVec S_ 1 := constantI S_ 1 1#1
  let main_v13 : IVec S_ 1 := (fun x v => Host.reduce IntOp.andi x v reducesTo_S1024_S_d0 h_S_) main_v12 main_c_2
  let main_c_3 : IVec S_ 32 := constantI S_ 32 320#32
  let main_v14 : IVec S4 32 := broadcastInDim S4 ![] bcast_S_S4 main_c_3
  let main_v15 : IVec S4 1 := cmpi .sle main_v7 main_v14
  let main_c_4 : IVec S_ 1 := constantI S_ 1 1#1
  let main_v16 : IVec S_ 1 := (fun x v => Host.reduce IntOp.andi x v reducesTo_S4_S_d0 h_S_) main_v15 main_c_4
  let main_v17 : IVec S_ 1 := andi main_v13 main_v16
  main_v17
-- ==== Pre_fits_ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S4 : Shape := ⟨1, ![4]⟩
abbrev S2048x1 : Shape := ⟨2, ![2048, 1]⟩
abbrev S1x4 : Shape := ⟨2, ![1, 4]⟩
abbrev S2048x4 : Shape := ⟨2, ![2048, 4]⟩
abbrev S_ : Shape := ⟨0, ![]⟩

class Facts : Prop where
  bcast_S2048_S2048x1_0 : S2048.BroadcastsInDim S2048x1 (![0] : Fin 1 → Fin S2048x1.rank)
  bcast_S4_S1x4_1 : S4.BroadcastsInDim S1x4 (![1] : Fin 1 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  natLt_1_32 : 1 < 32
  reducesTo_S2048x4_S4_d0 : S2048x4.ReducesTo [0] S4
  h_S_ : 0 < S_.numel
  bcast_S_S2048 : S_.BroadcastsInDim S2048 (![] : Fin 0 → Fin S2048.rank)
  reducesTo_S2048_S_d0 : S2048.ReducesTo [0] S_
  bcast_S_S4 : S_.BroadcastsInDim S4 (![] : Fin 0 → Fin S4.rank)
  reducesTo_S4_S_d0 : S4.ReducesTo [0] S_

variable [Facts]

def fn {F : FTy → Type} [FloatOps F] (main_arg0 : FVec F S2048x1024 .f32) (main_arg1 : IVec S2048 32) (main_arg2 : FVec F S4x1024x2048 .f32) (main_arg3 : FVec F S4x2048x1024 .f32) : IVec S_ 1 :=
  let main_v0 : IVec S4 32 := iotaInDim S4 32 0
  let main_v1 : IVec S2048x1 32 := broadcastInDim S2048x1 ![0] bcast_S2048_S2048x1_0 main_arg1
  let main_v2 : IVec S1x4 32 := broadcastInDim S1x4 ![1] bcast_S4_S1x4_1 main_v0
  let main_v3 : IVec S2048x4 32 := broadcastInDim S2048x4 ![0, 1] bcast_S2048x1_S2048x4_0_1 main_v1
  let main_v4 : IVec S2048x4 32 := broadcastInDim S2048x4 ![0, 1] bcast_S1x4_S2048x4_0_1 main_v2
  let main_v5 : IVec S2048x4 1 := cmpi .eq main_v3 main_v4
  let main_v6 : IVec S2048x4 32 := (extui 32 · natLt_1_32) main_v5
  let main_c : IVec S_ 32 := constantI S_ 32 0#32
  let main_v7 : IVec S4 32 := (fun x v => Host.reduce IntOp.addi x v reducesTo_S2048x4_S4_d0 h_S_) main_v6 main_c
  let main_c_0 : IVec S_ 32 := constantI S_ 32 0#32
  let main_v8 : IVec S2048 32 := broadcastInDim S2048 ![] bcast_S_S2048 main_c_0
  let main_v9 : IVec S2048 1 := cmpi .sge main_arg1 main_v8
  let main_c_1 : IVec S_ 32 := constantI S_ 32 4#32
  let main_v10 : IVec S2048 32 := broadcastInDim S2048 ![] bcast_S_S2048 main_c_1
  let main_v11 : IVec S2048 1 := cmpi .slt main_arg1 main_v10
  let main_v12 : IVec S2048 1 := andi main_v9 main_v11
  let main_c_2 : IVec S_ 1 := constantI S_ 1 1#1
  let main_v13 : IVec S_ 1 := (fun x v => Host.reduce IntOp.andi x v reducesTo_S2048_S_d0 h_S_) main_v12 main_c_2
  let main_c_3 : IVec S_ 32 := constantI S_ 32 640#32
  let main_v14 : IVec S4 32 := broadcastInDim S4 ![] bcast_S_S4 main_c_3
  let main_v15 : IVec S4 1 := cmpi .sle main_v7 main_v14
  let main_c_4 : IVec S_ 1 := constantI S_ 1 1#1
  let main_v16 : IVec S_ 1 := (fun x v => Host.reduce IntOp.andi x v reducesTo_S4_S_d0 h_S_) main_v15 main_c_4
  let main_v17 : IVec S_ 1 := andi main_v13 main_v16
  main_v17
-- ==== Kernel.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S640x1024 : Shape := ⟨2, ![640, 1024]⟩
abbrev S512x2048 : Shape := ⟨2, ![512, 2048]⟩
abbrev S6 : Shape := ⟨1, ![6]⟩
abbrev S8 : Shape := ⟨1, ![8]⟩
abbrev S1 : Shape := ⟨1, ![1]⟩
abbrev S_ : Shape := ⟨0, ![]⟩
abbrev S1x512x2048 : Shape := ⟨3, ![1, 512, 2048]⟩
abbrev S1x1024x1024 : Shape := ⟨3, ![1, 1024, 1024]⟩
abbrev S1024x1 : Shape := ⟨2, ![1024, 1]⟩
abbrev S1024x4 : Shape := ⟨2, ![1024, 4]⟩
abbrev S1024x640 : Shape := ⟨2, ![1024, 640]⟩
abbrev S320x1024 : Shape := ⟨2, ![320, 1024]⟩
abbrev S1x1024x2048 : Shape := ⟨3, ![1, 1024, 2048]⟩
abbrev S1024x2048 : Shape := ⟨2, ![1024, 2048]⟩
abbrev S320x2048 : Shape := ⟨2, ![320, 2048]⟩
abbrev S1x2048x1024 : Shape := ⟨3, ![1, 2048, 1024]⟩
abbrev S2048x1024 : Shape := ⟨2, ![2048, 1024]⟩
abbrev S160x1024 : Shape := ⟨2, ![160, 1024]⟩
abbrev S160x2048 : Shape := ⟨2, ![160, 2048]⟩
abbrev S1024x320 : Shape := ⟨2, ![1024, 320]⟩

abbrev nBuf : Space → Nat
  | .hbm => 5
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024, .i32⟩
  | .hbm, ⟨2, _⟩ => ⟨S2x1024x2048, .f32⟩
  | .hbm, ⟨3, _⟩ => ⟨S2x2048x1024, .f32⟩
  | .hbm, ⟨4, _⟩ => ⟨S1024x1024, .f32⟩
  | .local _ .vmem, ⟨0, _⟩ => ⟨S1024x1024, .f32⟩
  | .local _ .vmem, ⟨1, _⟩ => ⟨S1024, .i32⟩
  | .local _ .vmem, ⟨2, _⟩ => ⟨S1024x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S512x2048, .f32⟩
  | .local _ .vmem, ⟨7, _⟩ => ⟨S512x2048, .f32⟩
  | .local _ .vmem, ⟨8, _⟩ => ⟨S1024x1024, .f32⟩
  | .local _ .vmem, ⟨9, _⟩ => ⟨S1024x1024, .f32⟩
  | .local _ .vmem, ⟨10, _⟩ => ⟨S2x1024x2048, .bf16⟩
  | .local _ .vmem, ⟨11, _⟩ => ⟨S2x2048x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v27 : BitVec 32 := Scalar.muli v2 c8_i32_16
  let v28 : BitVec 32 := Scalar.addi c0_i32_17 v27
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_18 : BitVec 32 := 4#32
  let v29 : BitVec 32 := Scalar.muli v9 c4_i32_18
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v31 : BitVec 32 := Scalar.muli v8 c1_i32_19
  let v32 : BitVec 32 := Scalar.addi v30 v31
  v32.toNat
def k0_dev2 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v124 : BitVec 32 := Scalar.muli v2 c8_i32_44
  let v125 : BitVec 32 := Scalar.addi c0_i32_45 v124
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_46 : BitVec 32 := 4#32
  let v126 : BitVec 32 := Scalar.muli v9 c4_i32_46
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v128 : BitVec 32 := Scalar.muli v8 c1_i32_47
  let v129 : BitVec 32 := Scalar.addi v127 v128
  v129.toNat
def k0_dev3 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v136 : BitVec 32 := Scalar.muli v2 c8_i32_54
  let v137 : BitVec 32 := Scalar.addi c0_i32_55 v136
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v138 : BitVec 32 := Scalar.muli v9 c4_i32_56
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v140 : BitVec 32 := Scalar.muli v8 c1_i32_57
  let v141 : BitVec 32 := Scalar.addi v139 v140
  v141.toNat
def k0_dev4 (d0 : Dev nD) : Nat :=
  let c0_i32_152 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_151 : BitVec 32 := 8#32
  let v241 : BitVec 32 := Scalar.muli v2 c8_i32_151
  let v242 : BitVec 32 := Scalar.addi c0_i32_152 v241
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_153 : BitVec 32 := 4#32
  let v243 : BitVec 32 := Scalar.muli v9 c4_i32_153
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v245 : BitVec 32 := Scalar.muli v8 c1_i32_154
  let v246 : BitVec 32 := Scalar.addi v244 v245
  v246.toNat
def k0_dev5 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v267 : BitVec 32 := Scalar.muli v2 c8_i32_173
  let v268 : BitVec 32 := Scalar.addi c0_i32_174 v267
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_175 : BitVec 32 := 4#32
  let v269 : BitVec 32 := Scalar.muli v9 c4_i32_175
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v271 : BitVec 32 := Scalar.muli v8 c1_i32_176
  let v272 : BitVec 32 := Scalar.addi v270 v271
  v272.toNat
def k0_dev6 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259 : BitVec 32 := 8#32
  let v360 : BitVec 32 := Scalar.muli v2 c8_i32_259
  let v361 : BitVec 32 := Scalar.addi c0_i32_260 v360
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_261 : BitVec 32 := 4#32
  let v362 : BitVec 32 := Scalar.muli v9 c4_i32_261
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v364 : BitVec 32 := Scalar.muli v8 c1_i32_262
  let v365 : BitVec 32 := Scalar.addi v363 v364
  v365.toNat
def k0_dev7 (d0 : Dev nD) : Nat :=
  let c0_i32_282 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_281 : BitVec 32 := 8#32
  let v386 : BitVec 32 := Scalar.muli v2 c8_i32_281
  let v387 : BitVec 32 := Scalar.addi c0_i32_282 v386
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_283 : BitVec 32 := 4#32
  let v388 : BitVec 32 := Scalar.muli v9 c4_i32_283
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v390 : BitVec 32 := Scalar.muli v8 c1_i32_284
  let v391 : BitVec 32 := Scalar.addi v389 v390
  v391.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S2048x1 : Shape := ⟨2, ![2048, 1]⟩
abbrev S1x2048x1024 : Shape := ⟨3, ![1, 2048, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S1x1024x2048, .f32⟩
  | .hbm, ⟨10, _⟩ => ⟨S1024x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x1, .i1⟩
  | .hbm, ⟨16, _⟩ => ⟨S1x2048x1024, .f32⟩
  | .hbm, ⟨17, _⟩ => ⟨S2048x1024, .f32⟩
  | .hbm, ⟨18, _⟩ => ⟨S2048x1024, .f32⟩
  | .hbm, ⟨19, _⟩ => ⟨S2048x1024, .i1⟩
  | .hbm, ⟨20, _⟩ => ⟨S2048x1024, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S1x1024x2048, .f32⟩
  | .hbm, ⟨25, _⟩ => ⟨S1024x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x1, .i1⟩
  | .hbm, ⟨31, _⟩ => ⟨S1x2048x1024, .f32⟩
  | .hbm, ⟨32, _⟩ => ⟨S2048x1024, .f32⟩
  | .hbm, ⟨33, _⟩ => ⟨S2048x1024, .f32⟩
  | .hbm, ⟨34, _⟩ => ⟨S2048x1024, .i1⟩
  | .hbm, ⟨35, _⟩ => ⟨S2048x1024, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S1x1024x2048, .f32⟩
  | .hbm, ⟨40, _⟩ => ⟨S1024x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x1, .i1⟩
  | .hbm, ⟨46, _⟩ => ⟨S1x2048x1024, .f32⟩
  | .hbm, ⟨47, _⟩ => ⟨S2048x1024, .f32⟩
  | .hbm, ⟨48, _⟩ => ⟨S2048x1024, .f32⟩
  | .hbm, ⟨49, _⟩ => ⟨S2048x1024, .i1⟩
  | .hbm, ⟨50, _⟩ => ⟨S2048x1024, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S1x1024x2048, .f32⟩
  | .hbm, ⟨55, _⟩ => ⟨S1024x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .f32⟩
  | .hbm, ⟨60, _⟩ => ⟨S2048x1, .i1⟩
  | .hbm, ⟨61, _⟩ => ⟨S1x2048x1024, .f32⟩
  | .hbm, ⟨62, _⟩ => ⟨S2048x1024, .f32⟩
  | .hbm, ⟨63, _⟩ => ⟨S2048x1024, .f32⟩
  | .hbm, ⟨64, _⟩ => ⟨S2048x1024, .i1⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Sched.lean ====
/-
The protocol of the kernel `cc0_body`, written down as a rounds schedule.

Every semaphore of a device is one cell that sees exactly one payment and one wait. The cells are numbered by
`Fin 21`: `0` the barrier, `1 … 6` the send semaphores, `7 … 12` the receive semaphores, `13 … 20` the semaphores
of the weight loads. A device waits on its own cells; it pays its own send and load cells, and the barrier and receive
cells of `peer c`, the device that differs from it in the middle mesh coordinate only.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KernelIdeal.Moe

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-- The initial state: memory `m`, every counter at zero. -/
def s₀ : MemSt nD τ sig (Elt F) := ⟨m, fun _ => 0, ρ⟩

/-! ## The exchange partner -/

/-- The device that differs from `c` in the middle mesh coordinate only. -/
def peer (c : Dev nD) : Dev nD :=
  ⟨(8 * (c.val / 8) + (c.val % 4) + 4) - 4 * ((c.val / 4) % 2), by rw [← k0_dev1_eq c]; exact k0_dev1_lt c⟩

/-- The partner's partner is the device itself. -/
theorem peer_peer (c : Dev nD) : peer (peer c) = c := by revert c; decide

/-- The barrier signal goes to the partner. -/
theorem dev1_eq (c : Dev nD) : (⟨k0_dev1 c, k0_dev1_lt c⟩ : Dev nD) = peer c := Fin.ext (k0_dev1_eq c)
/-- Remote copy number 1 goes to the partner. -/
theorem dev2_eq (c : Dev nD) : (⟨k0_dev2 c, k0_dev2_lt c⟩ : Dev nD) = peer c := Fin.ext (k0_dev2_eq c)
/-- Remote copy number 2 goes to the partner. -/
theorem dev3_eq (c : Dev nD) : (⟨k0_dev3 c, k0_dev3_lt c⟩ : Dev nD) = peer c := Fin.ext (k0_dev3_eq c)
/-- Remote copy number 3 goes to the partner. -/
theorem dev4_eq (c : Dev nD) : (⟨k0_dev4 c, k0_dev4_lt c⟩ : Dev nD) = peer c := Fin.ext (k0_dev4_eq c)
/-- Remote copy number 4 goes to the partner. -/
theorem dev5_eq (c : Dev nD) : (⟨k0_dev5 c, k0_dev5_lt c⟩ : Dev nD) = peer c := Fin.ext (k0_dev5_eq c)
/-- Remote copy number 5 goes to the partner. -/
theorem dev6_eq (c : Dev nD) : (⟨k0_dev6 c, k0_dev6_lt c⟩ : Dev nD) = peer c := Fin.ext (k0_dev6_eq c)
/-- Remote copy number 6 goes to the partner. -/
theorem dev7_eq (c : Dev nD) : (⟨k0_dev7 c, k0_dev7_lt c⟩ : Dev nD) = peer c := Fin.ext (k0_dev7_eq c)

/-- The exchange as a permutation of the devices. -/
def swap : Dev nD ≃ Dev nD := ⟨peer, peer, peer_peer, peer_peer⟩

/-! ## The memrefs -/

abbrev xM : Memref sig .tc .vmem S1024x1024 .f32 := Memref.whole cc0_stg0_0
abbrev aM : Memref sig .tc .vmem S1024 .i32 := Memref.whole cc0_stg1_0
abbrev oM : Memref sig .tc .vmem S1024x1024 .f32 := Memref.whole cc0_stg2_0
abbrev w1M : Memref sig .tc .hbm S2x1024x2048 .f32 := Memref.whole main_arg2
abbrev w2M : Memref sig .tc .hbm S2x2048x1024 .f32 := Memref.whole main_arg3
abbrev xsM : Memref sig .tc .vmem S640x1024 .bf16 := Memref.whole cc0_scratch0
abbrev xrM : Memref sig .tc .vmem S640x1024 .bf16 := Memref.whole cc0_scratch1
abbrev reM : Memref sig .tc .vmem S640x1024 .bf16 := Memref.whole cc0_scratch2
abbrev s1aM : Memref sig .tc .vmem S512x2048 .f32 := Memref.whole cc0_scratch3
abbrev s1bM : Memref sig .tc .vmem S512x2048 .f32 := Memref.whole cc0_scratch4
abbrev s2aM : Memref sig .tc .vmem S1024x1024 .f32 := Memref.whole cc0_scratch5
abbrev s2bM : Memref sig .tc .vmem S1024x1024 .f32 := Memref.whole cc0_scratch6
abbrev w1bM : Memref sig .tc .vmem S2x1024x2048 .bf16 := Memref.whole cc0_scratch7
abbrev w2bM : Memref sig .tc .vmem S2x2048x1024 .bf16 := Memref.whole cc0_scratch8

/-- The rectangles the kernel moves: halves and quarters of a 640-row buffer, halves of an expert's weights. -/
abbrev rH0 : Rect S640x1024 := Rect.unit (s := S640x1024) ![0, 0] S320x1024.size inb_S640x1024_S320x1024_0_0
abbrev rH1 : Rect S640x1024 := Rect.unit (s := S640x1024) ![320, 0] S320x1024.size inb_S640x1024_S320x1024_320_0
abbrev rQ0 : Rect S640x1024 := Rect.unit (s := S640x1024) ![0, 0] S160x1024.size inb_S640x1024_S160x1024_0_0
abbrev rQ1 : Rect S640x1024 := Rect.unit (s := S640x1024) ![160, 0] S160x1024.size inb_S640x1024_S160x1024_160_0
abbrev rQ2 : Rect S640x1024 := Rect.unit (s := S640x1024) ![320, 0] S160x1024.size inb_S640x1024_S160x1024_320_0
abbrev rQ3 : Rect S640x1024 := Rect.unit (s := S640x1024) ![480, 0] S160x1024.size inb_S640x1024_S160x1024_480_0

abbrev rA00 : Rect S2x1024x2048 := Rect.unit (s := S2x1024x2048) ![0, 0, 0] S1x512x2048.size inb_S2x1024x2048_S1x512x2048_0_0_0
abbrev rA01 : Rect S2x1024x2048 := Rect.unit (s := S2x1024x2048) ![0, 512, 0] S1x512x2048.size inb_S2x1024x2048_S1x512x2048_0_512_0
abbrev rA10 : Rect S2x1024x2048 := Rect.unit (s := S2x1024x2048) ![1, 0, 0] S1x512x2048.size inb_S2x1024x2048_S1x512x2048_1_0_0
abbrev rA11 : Rect S2x1024x2048 := Rect.unit (s := S2x1024x2048) ![1, 512, 0] S1x512x2048.size inb_S2x1024x2048_S1x512x2048_1_512_0
abbrev rB00 : Rect S2x2048x1024 := Rect.unit (s := S2x2048x1024) ![0, 0, 0] S1x1024x1024.size inb_S2x2048x1024_S1x1024x1024_0_0_0
abbrev rB01 : Rect S2x2048x1024 := Rect.unit (s := S2x2048x1024) ![0, 1024, 0] S1x1024x1024.size inb_S2x2048x1024_S1x1024x1024_0_1024_0
abbrev rB10 : Rect S2x2048x1024 := Rect.unit (s := S2x2048x1024) ![1, 0, 0] S1x1024x1024.size inb_S2x2048x1024_S1x1024x1024_1_0_0
abbrev rB11 : Rect S2x2048x1024 := Rect.unit (s := S2x2048x1024) ![1, 1024, 0] S1x1024x1024.size inb_S2x2048x1024_S1x1024x1024_1_1024_0
abbrev rA0 : Rect S2x1024x2048 := Rect.unit (s := S2x1024x2048) ![0, 0, 0] S1x1024x2048.size inb_S2x1024x2048_S1x1024x2048_0_0_0
abbrev rA1 : Rect S2x1024x2048 := Rect.unit (s := S2x1024x2048) ![1, 0, 0] S1x1024x2048.size inb_S2x1024x2048_S1x1024x2048_1_0_0
abbrev rB0 : Rect S2x2048x1024 := Rect.unit (s := S2x2048x1024) ![0, 0, 0] S1x2048x1024.size inb_S2x2048x1024_S1x2048x1024_0_0_0
abbrev rB1 : Rect S2x2048x1024 := Rect.unit (s := S2x2048x1024) ![1, 0, 0] S1x2048x1024.size inb_S2x2048x1024_S1x2048x1024_1_0_0

/-- The weight slices the loads copy from. -/
abbrev w1S00 : Memref sig .tc .hbm S512x2048 .f32 := (w1M.slice rA00 (fun _ => rfl)).squeeze S512x2048 squeezes_S1x512x2048_S512x2048
abbrev w1S01 : Memref sig .tc .hbm S512x2048 .f32 := (w1M.slice rA01 (fun _ => rfl)).squeeze S512x2048 squeezes_S1x512x2048_S512x2048
abbrev w1S10 : Memref sig .tc .hbm S512x2048 .f32 := (w1M.slice rA10 (fun _ => rfl)).squeeze S512x2048 squeezes_S1x512x2048_S512x2048
abbrev w1S11 : Memref sig .tc .hbm S512x2048 .f32 := (w1M.slice rA11 (fun _ => rfl)).squeeze S512x2048 squeezes_S1x512x2048_S512x2048
abbrev w2S00 : Memref sig .tc .hbm S1024x1024 .f32 := (w2M.slice rB00 (fun _ => rfl)).squeeze S1024x1024 squeezes_S1x1024x1024_S1024x1024
abbrev w2S01 : Memref sig .tc .hbm S1024x1024 .f32 := (w2M.slice rB01 (fun _ => rfl)).squeeze S1024x1024 squeezes_S1x1024x1024_S1024x1024
abbrev w2S10 : Memref sig .tc .hbm S1024x1024 .f32 := (w2M.slice rB10 (fun _ => rfl)).squeeze S1024x1024 squeezes_S1x1024x1024_S1024x1024
abbrev w2S11 : Memref sig .tc .hbm S1024x1024 .f32 := (w2M.slice rB11 (fun _ => rfl)).squeeze S1024x1024 squeezes_S1x1024x1024_S1024x1024

/-! ## The cells -/

abbrev barS : Sems sig S_ := SemArray.scalar (sig.barrier 0 rfl)
/-- Entry `j` of a six-entry semaphore array, and of the eight-entry one. -/
abbrev sem6 (a : DmaSems sig S6) (j : ℕ) (h : ∀ i, (![j] : Fin 1 → Nat) i + S1.size i ≤ S6.size i) : DmaSem sig :=
  ((a.slice (Rect.unit (s := S6) ![j] S1.size h)).squeeze S_ squeezes_S1_S_).sem
abbrev sem8 (a : DmaSems sig S8) (j : ℕ) (h : ∀ i, (![j] : Fin 1 → Nat) i + S1.size i ≤ S8.size i) : DmaSem sig :=
  ((a.slice (Rect.unit (s := S8) ![j] S1.size h)).squeeze S_ squeezes_S1_S_).sem

/-- The semaphore of cell `k`. -/
abbrev csem : Fin 21 → SemLoc sig := fun
  | 0 => .reg barS.sem
  | 1 => .dma (sem6 cc0_scratch9 0 inb_S6_S1_0)
  | 2 => .dma (sem6 cc0_scratch9 1 inb_S6_S1_1)
  | 3 => .dma (sem6 cc0_scratch9 2 inb_S6_S1_2)
  | 4 => .dma (sem6 cc0_scratch9 3 inb_S6_S1_3)
  | 5 => .dma (sem6 cc0_scratch9 4 inb_S6_S1_4)
  | 6 => .dma (sem6 cc0_scratch9 5 inb_S6_S1_5)
  | 7 => .dma (sem6 cc0_scratch10 0 inb_S6_S1_0)
  | 8 => .dma (sem6 cc0_scratch10 1 inb_S6_S1_1)
  | 9 => .dma (sem6 cc0_scratch10 2 inb_S6_S1_2)
  | 10 => .dma (sem6 cc0_scratch10 3 inb_S6_S1_3)
  | 11 => .dma (sem6 cc0_scratch10 4 inb_S6_S1_4)
  | 12 => .dma (sem6 cc0_scratch10 5 inb_S6_S1_5)
  | 13 => .dma (sem8 cc0_scratch11 0 inb_S8_S1_0)
  | 14 => .dma (sem8 cc0_scratch11 1 inb_S8_S1_1)
  | 15 => .dma (sem8 cc0_scratch11 2 inb_S8_S1_2)
  | 16 => .dma (sem8 cc0_scratch11 3 inb_S8_S1_3)
  | 17 => .dma (sem8 cc0_scratch11 4 inb_S8_S1_4)
  | 18 => .dma (sem8 cc0_scratch11 5 inb_S8_S1_5)
  | 19 => .dma (sem8 cc0_scratch11 6 inb_S8_S1_6)
  | _ => .dma (sem8 cc0_scratch11 7 inb_S8_S1_7)

/-- The number of the cell a semaphore is, if it is one. -/
def idx (s : SemLoc sig) : Option (Fin 21) := (List.finRange 21).find? fun k => csem k = s

/-- The number of a cell, read off its semaphore. -/
theorem idx_csem (k : Fin 21) : idx (csem k) = some k := by revert k; decide +kernel

/-- Different numbers name different semaphores. -/
theorem csem_injective : Function.Injective csem := fun a b h => by
  have := congrArg idx h
  rw [idx_csem, idx_csem] at this
  exact Option.some.inj this

abbrev kcell (ck : Dev nD × Fin 21) : GSem nD τ sig := ((ck.1 : Thread nD τ), csem ck.2)

/-- Different pairs of device and number name different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl

/-- The amount of cell `k`'s one payment: a unit for the barrier, a transfer's credit otherwise. -/
def amt : Fin 21 → ℕ := fun
  | 0 => 1
  | 1 | 2 | 7 | 8 => (xrM.slice rH0 (fun _ => rfl)).view.dmaCredit
  | 3 | 4 | 5 | 6 | 9 | 10 | 11 | 12 => (reM.slice rQ0 (fun _ => rfl)).view.dmaCredit
  | 13 | 14 | 17 | 18 => s1aM.view.dmaCredit
  | _ => s2aM.view.dmaCredit

/-- Every payment is positive. -/
theorem amt_pos (k : Fin 21) : 0 < amt k := by
  fin_cases k <;> first | exact Nat.one_pos | exact View.dmaCredit_pos _ (by decide)

/-- Who pays cell `k` of device `c`, and equally whose cell `k` device `c` pays. -/
def tgt (k : Fin 21) (c : Dev nD) : Dev nD := if k = 0 ∨ (7 ≤ k.val ∧ k.val ≤ 12) then peer c else c

/-- Taking the target twice leads back. -/
theorem tgt_tgt (k : Fin 21) (c : Dev nD) : tgt k (tgt k c) = c := by
  unfold tgt; split
  · exact peer_peer c
  · rfl

/-- `tgt k` as a permutation of the devices. -/
def tgtE (k : Fin 21) : Dev nD ≃ Dev nD := ⟨tgt k, tgt k, tgt_tgt k, tgt_tgt k⟩

/-! ## Contents -/

/-- The staged input blocks and the device's weights. -/
def xstg (c : Dev nD) : (cc0_stg0_0 : Ref sig .tc).ty.Contents (Elt F) :=
  (win0_0.blk (0 : Fin 1)).view.read (Elt F) ((s₀ m ρ).mem ((c : Thread nD τ).loc main_arg0))
def astg (c : Dev nD) : (cc0_stg1_0 : Ref sig .tc).ty.Contents (Elt F) :=
  (win0_1.blk (0 : Fin 1)).view.read (Elt F) ((s₀ m ρ).mem ((c : Thread nD τ).loc main_arg1))
def w1 (c : Dev nD) : Vec F S2x1024x2048 .f32 := m ((c : Thread nD τ).loc main_arg2)
def w2 (c : Dev nD) : Vec F S2x2048x1024 .f32 := m ((c : Thread nD τ).loc main_arg3)

/-- The device's middle mesh coordinate as the kernel computes it. -/
def y5 (c : Dev nD) : BitVec 32 := Scalar.remsi (Scalar.divsi (Dev.word c) 4#32) 2#32

/-- The two dispatch matrices and the two dispatched token blocks. -/
def selS (c : Dev nD) : FVec F S1024x640 .bf16 := k0_pay7 (F := F) (y5 c) (k0_pay2 (F := F) (astg m ρ c)) (k0_pay3 (F := F) (astg m ρ c)) (k0_pay4 (F := F) (astg m ρ c)) 320#32
def selL (c : Dev nD) : FVec F S1024x640 .bf16 := k0_pay8 (F := F) (y5 c) (k0_pay2 (F := F) (astg m ρ c)) (k0_pay3 (F := F) (astg m ρ c)) (k0_pay4 (F := F) (astg m ρ c)) 320#32
def XS (c : Dev nD) : Vec F S640x1024 .bf16 :=
  k0_pay11 (k0_pay10 (y5 c) (k0_pay2 (F := F) (astg m ρ c)) (k0_pay3 (F := F) (astg m ρ c)) (k0_pay4 (F := F) (astg m ρ c)) 320#32 (xstg m ρ c))
def XL (c : Dev nD) : FVec F S640x1024 .bf16 := k0_pay12 (selL m ρ c) (k0_pay9 (xstg m ρ c))

/-- The device's weights rounded to the working format, and each expert's part of them. -/
def T1 (c : Dev nD) : Vec F S2x1024x2048 .bf16 := truncf .bf16 (w1 m c) bitsLt_bf16_f32
def T2 (c : Dev nD) : Vec F S2x2048x1024 .bf16 := truncf .bf16 (w2 m c) bitsLt_bf16_f32
def W10 (c : Dev nD) : Vec F S1x1024x2048 .bf16 := fun j => T1 m c (rA0.emb j)
def W11 (c : Dev nD) : Vec F S1x1024x2048 .bf16 := fun j => T1 m c (rA1.emb j)
def W20 (c : Dev nD) : Vec F S1x2048x1024 .bf16 := fun j => T2 m c (rB0.emb j)
def W21 (c : Dev nD) : Vec F S1x2048x1024 .bf16 := fun j => T2 m c (rB1.emb j)

/-- Quarter `q` of the block the peer sends. -/
def XQ (c : Dev nD) (o : ℕ) (ho : ∀ a, (![o, 0] : Fin 2 → Nat) a + S160x1024.size a ≤ S640x1024.size a) : Vec F S160x1024 .bf16 :=
  fun j => XS m ρ (peer c) ((Rect.unit (s := S640x1024) ![o, 0] S160x1024.size ho).emb j)

/-- The four quarters of the result the device returns to its peer. -/
def C0 (c : Dev nD) : Vec F S160x1024 .bf16 := k0_pay20 (k0_pay19 (XQ m ρ c 0 inb_S640x1024_S160x1024_0_0) (W10 m c)) (W20 m c)
def C1 (c : Dev nD) : Vec F S160x1024 .bf16 := k0_pay22 (k0_pay21 (XQ m ρ c 160 inb_S640x1024_S160x1024_160_0) (W10 m c) (W20 m c))
def C2 (c : Dev nD) : Vec F S160x1024 .bf16 :=
  k0_pay31 (XQ m ρ c 320 inb_S640x1024_S160x1024_320_0) (k0_pay30 (W11 m c)) (constant S160x2048 .f32 0x00000000#32) (W21 m c)
def C3 (c : Dev nD) : Vec F S160x1024 .bf16 := k0_pay33 (k0_pay32 (XQ m ρ c 480 inb_S640x1024_S160x1024_480_0) (W11 m c)) (W21 m c)

/-- Row `r mod 160` of a quarter. -/
abbrev qix (i : S640x1024.Idx) : S160x1024.Idx := ix2 ⟨(i 0).val % 160, Nat.mod_lt _ (by decide)⟩ (i 1)
/-- The whole returned block. -/
def RO (c : Dev nD) : Vec F S640x1024 .bf16 := fun i =>
  if (i 0).val < 160 then C0 m ρ c (qix i) else if (i 0).val < 320 then C1 m ρ c (qix i)
  else if (i 0).val < 480 then C2 m ρ c (qix i) else C3 m ρ c (qix i)

/-- A half of the block the peer returns. -/
def RH (c : Dev nD) (o : ℕ) (ho : ∀ a, (![o, 0] : Fin 2 → Nat) a + S320x1024.size a ≤ S640x1024.size a) : Vec F S320x1024 .bf16 :=
  fun j => RO m ρ (peer c) ((Rect.unit (s := S640x1024) ![o, 0] S320x1024.size ho).emb j)

/-- The output block after the local part, after the first returned half, and at the end. -/
def O1 (c : Dev nD) : Vec F S1024x1024 .f32 :=
  k0_pay29 (selL m ρ c) (k0_pay18 (k0_pay17 (XL m ρ c) (W10 m c)) (W20 m c)) (k0_pay28 (XL m ρ c) (W11 m c)) (W21 m c)
def O2 (c : Dev nD) : Vec F S1024x1024 .f32 := k0_pay34 (selS m ρ c) (O1 m ρ c) (RH m ρ c 0 inb_S640x1024_S320x1024_0_0)
def OUT (c : Dev nD) : Vec F S1024x1024 .f32 := k0_pay1 (selS m ρ c) (O2 m ρ c) (RH m ρ c 320 inb_S640x1024_S320x1024_320_0)

/-! ## Points-tos -/

/-- The elements `r` of buffer `b` on device `c`, held whole at contents `f`. -/
abbrev ptR (b : Ref sig .tc) (c : Dev nD) (r : Finset (Idx ((c : Thread nD τ).loc b))) (f : Buf (Elt F) ((c : Thread nD τ).loc b)) : sProp 𝕄 :=
  ((c : Thread nD τ).loc b) ↦[r]{fullShare} f

/-! ## The schedule -/

/-- What cell `k`'s payment hands device `c`. -/
def pay (k : Fin 21) (c : Dev nD) : sProp 𝕄 := match k with
  | 0 => iprop((∃ f, ptR cc0_scratch1 (peer c) Finset.univ f) ∗ (∃ f, ptR cc0_scratch2 (peer c) Finset.univ f))
  | 1 => ptR cc0_scratch0 c rH0.set (XS m ρ c)
  | 2 => ptR cc0_scratch0 c rH1.set (XS m ρ c)
  | 3 => ptR cc0_scratch1 c rQ0.set (RO m ρ c)
  | 4 => ptR cc0_scratch1 c rQ1.set (RO m ρ c)
  | 5 => ptR cc0_scratch1 c rQ2.set (RO m ρ c)
  | 6 => ptR cc0_scratch1 c rQ3.set (RO m ρ c)
  | 7 => ptR cc0_scratch1 c rH0.set (XS m ρ (peer c))
  | 8 => ptR cc0_scratch1 c rH1.set (XS m ρ (peer c))
  | 9 => ptR cc0_scratch2 c rQ0.set (RO m ρ (peer c))
  | 10 => ptR cc0_scratch2 c rQ1.set (RO m ρ (peer c))
  | 11 => ptR cc0_scratch2 c rQ2.set (RO m ρ (peer c))
  | 12 => ptR cc0_scratch2 c rQ3.set (RO m ρ (peer c))
  | 13 => iprop(ptR cc0_scratch3 c Finset.univ (w1S00.view.read (Elt F) (w1 m c)) ∗ ptR main_arg2 c rA00.set (w1 m c))
  | 14 => iprop(ptR cc0_scratch4 c Finset.univ (w1S01.view.read (Elt F) (w1 m c)) ∗ ptR main_arg2 c rA01.set (w1 m c))
  | 15 => iprop(ptR cc0_scratch5 c Finset.univ (w2S00.view.read (Elt F) (w2 m c)) ∗ ptR main_arg3 c rB00.set (w2 m c))
  | 16 => iprop(ptR cc0_scratch6 c Finset.univ (w2S01.view.read (Elt F) (w2 m c)) ∗ ptR main_arg3 c rB01.set (w2 m c))
  | 17 => iprop(ptR cc0_scratch3 c Finset.univ (w1S10.view.read (Elt F) (w1 m c)) ∗ ptR main_arg2 c rA10.set (w1 m c))
  | 18 => iprop(ptR cc0_scratch4 c Finset.univ (w1S11.view.read (Elt F) (w1 m c)) ∗ ptR main_arg2 c rA11.set (w1 m c))
  | 19 => iprop(ptR cc0_scratch5 c Finset.univ (w2S10.view.read (Elt F) (w2 m c)) ∗ ptR main_arg3 c rB10.set (w2 m c))
  | _ => iprop(ptR cc0_scratch6 c Finset.univ (w2S11.view.read (Elt F) (w2 m c)) ∗ ptR main_arg3 c rB11.set (w2 m c))

instance pay_storable (k : Fin 21) (c : Dev nD) : BI.Storable (upEmb : UEmb _ 𝕄) (pay (F := F) m ρ k c) := by
  unfold pay; split <;> infer_instance

/-- The schedule: one payment a cell, in round 0. -/
def Rd : Rounds.Schedule (GSem nD τ sig) Unit 𝕄 where
  duties g r := if r = 0 ∧ g.1.2 = .tc ∧ (idx g.2).isSome then {()} else ∅
  unitless _ := False
  amount g _ _ := match idx g.2 with | some k => amt k | none => 1
  payload g _ _ := match idx g.2 with | some k => pay m ρ k g.1.1 | none => iprop(emp)
  amount_pos g _ _ _ := by split; exacts [amt_pos _, Nat.one_pos]

instance Rd_payload_storable (g : GSem nD τ sig) (r : ℕ) (d : Unit) : BI.Storable (upEmb : UEmb _ 𝕄) ((Rd (F := F) m ρ).payload g r d) := by
  show BI.Storable upEmb (match idx g.2 with | some k => pay m ρ k g.1.1 | none => iprop(emp))
  split <;> infer_instance

section Sched
variable (c : Dev nD) (k : Fin 21)

omit [FloatOps F] in
/-- Each cell has one payment in its first round. -/
theorem duties_cell [FloatOps F] : (Rd (F := F) m ρ).duties (kcell (c, k)) 0 = {()} := by
  dsimp only [Rd]; rw [if_pos ⟨rfl, rfl, by rw [idx_csem]; rfl⟩]
/-- No cell has a payment in a later round. -/
theorem duties_later (g : GSem nD τ sig) : ∀ r, 1 ≤ r → (Rd (F := F) m ρ).duties g r = ∅ :=
  fun r hr => by dsimp only [Rd]; exact if_neg fun h => by omega
/-- The amount of the payment of a cell. -/
theorem amount_cell (u : Unit) : (Rd (F := F) m ρ).amount (kcell (c, k)) 0 u = amt k := by
  dsimp only [Rd]; rw [idx_csem]
/-- A cell expects the amount of its one payment. -/
theorem expect_cell : (Rd (F := F) m ρ).expect (kcell (c, k)) 0 = amt k := by
  unfold Schedule.expect Schedule.amountOf; rw [duties_cell, Finset.sum_singleton, amount_cell]
/-- What the payment of a cell hands over. -/
theorem payload_cell (u : Unit) : (Rd (F := F) m ρ).payload (kcell (c, k)) 0 u = pay m ρ k c := by
  dsimp only [Rd]; rw [idx_csem]
/-- All that a cell hands over is the content of its one payment. -/
theorem rest_cell : bigSep ((Rd (F := F) m ρ).duties (kcell (c, k)) 0 \ ∅) (fun u => (Rd (F := F) m ρ).payload (kcell (c, k)) 0 u) = pay m ρ k c := by
  rw [Finset.sdiff_empty, duties_cell, bigSep_singleton, payload_cell]

end Sched

/-! ## What a device owes, and the levels -/

/-- What device `c` owes the cells `S` of its peer. -/
def owed (c : Dev nD) (S : Finset (Fin 21)) : CellTallies nD τ sig Unit := ∑ k ∈ S, tallyAt (kcell (peer c, k)) () (amt k)

/-- A debt with one payment taken out, and that payment. -/
theorem owed_erase (c : Dev nD) {S : Finset (Fin 21)} {k : Fin 21} (h : k ∈ S) :
    owed c S = owed c (S.erase k) + tallyAt (kcell (peer c, k)) () (amt k) := by
  unfold owed; rw [Finset.sum_erase_add _ _ h]

/-- No payment left, no debt. -/
theorem owed_empty (c : Dev nD) : owed c ∅ = 0 := by unfold owed; rw [Finset.sum_empty]

/-- The debt at a cell, as a sum over the payments left. -/
theorem owed_apply (c : Dev nD) (S : Finset (Fin 21)) (g : GSem nD τ sig) (u : Unit) :
    owed c S g u = ∑ k ∈ S, if g = kcell (peer c, k) then amt k else 0 := by
  unfold owed
  rw [Finset.sum_apply, Finsupp.finset_sum_apply]
  refine Finset.sum_congr rfl fun k _ => ?_
  rw [tallyAt_apply]
  by_cases h : g = kcell (peer c, k)
  · rw [if_pos ⟨h, rfl⟩, if_pos h]
  · rw [if_neg (fun h' => h h'.1), if_neg h]

/-- A cell with a debt belongs to a payment left. -/
theorem owed_pos {c : Dev nD} {S : Finset (Fin 21)} {g : GSem nD τ sig} {u : Unit} (h : 0 < owed c S g u) :
    ∃ k ∈ S, g = kcell (peer c, k) := by
  rw [owed_apply] at h
  by_contra hn
  push Not at hn
  rw [Finset.sum_eq_zero fun k hk => if_neg (hn k hk)] at h
  exact Nat.lt_irrefl 0 h

/-- The cells a device pays on its peer. -/
abbrev S₀ : Finset (Fin 21) := {0, 7, 8, 9, 10, 11, 12}

def lev : Fin 21 → ℕ := fun k => if k = 0 then 1 else if k = 7 ∨ k = 8 then 2 else if 9 ≤ k.val ∧ k.val ≤ 12 then 3 else 0

def L (g : GSem nD τ sig) : Finset Unit := if g.1.2 = .tc then {()} else ∅
def lv (g : GSem nD τ sig) (_ : Unit) : ℕ := match idx g.2 with | some k => lev k | none => 0
/-- Other threads have no levels. -/
theorem L_of_ne (g : GSem nD τ sig) (h : g.1.2 ≠ .tc) : L g = ∅ := if_neg h
/-- The main thread of a device has one level at each semaphore. -/
theorem L_tc (c : Dev nD) (sm : SemLoc sig) : L ((c : Thread nD τ), sm) = {()} := if_pos rfl
/-- The level of a cell. -/
theorem lv_cell (c : Dev nD) (k : Fin 21) (u : Unit) : lv (kcell (c, k)) u = lev k := by unfold lv; rw [idx_csem]

omit [FloatOps F] in
/-- A wait on a cell below everything still owed is allowed. -/
theorem mayWait (c : Dev nD) (sm : SemLoc sig) (n : ℕ) (hn : ∀ u, lv ((c : Thread nD τ), sm) u = n) (S : Finset (Fin 21)) (h : ∀ k ∈ S, n < lev k) :
    (levAts L lv : sProp 𝕄) ⊢ MayWait (c : Thread nD τ) sm () (owed c S) :=
  MayOwe.of_cut (L := L) (lev := lv) n
    (fun p hp => by rw [Finset.mem_singleton.mp hp, L_tc]; exact Finset.mem_singleton_self _)
    (fun g u hg => by obtain ⟨k, hk, rfl⟩ := owed_pos hg; exact Finset.mem_singleton_self _)
    (fun p hp => by rw [Finset.mem_singleton.mp hp]; exact le_of_eq (hn _))
    (fun g u hg => by obtain ⟨k, hk, rfl⟩ := owed_pos hg; rw [lv_cell]; exact h k hk)

omit [FloatOps F] in
/-- A wait is allowed when every payment still owed has a higher level. -/
theorem mayWait_cell (c : Dev nD) (k : Fin 21) (S : Finset (Fin 21)) (h : ∀ k' ∈ S, lev k < lev k') :
    (levAts L lv : sProp 𝕄) ⊢ MayWait (c : Thread nD τ) (csem k) () (owed c S) :=
  mayWait c (csem k) (lev k) (fun u => lv_cell c k u) S h

/-! ## What a device holds of the protocol -/

/-- The right to wait on cell `k` of `c`. -/
def WaitR (c : Dev nD) (k : Fin 21) : sProp 𝕄 :=
  iprop((∃ κ : ℕ, cellInv ER (Rd m ρ) κ (kcell (c, k))) ∗ atPos ER (kcell (c, k)) 0 ∅ 0)
/-- The right to pay cell `k` of `c`. -/
def PayR (c : Dev nD) (k : Fin 21) : sProp 𝕄 :=
  iprop((∃ κ : ℕ, cellInv ER (Rd m ρ) κ (kcell (c, k))) ∗ dutyTok ER (kcell (c, k)) 0 () ∗ reached ER (kcell (c, k)) 0)

/-- What `c` owes, whatever it has waited on. -/
def owesE (c : Dev nD) (O : CellTallies nD τ sig Unit) : sProp 𝕄 := iprop(∃ W, owes (c : Thread nD τ) O W)

end Cert.KernelIdeal.Moe

end
-- ==== Proof.Steps.lean ====
/-
The steps of the kernel's body, one lemma a kind of operation: a load, a store, a local copy, a transfer to the peer, the
barrier signal and a wait; and the set and contents facts the body's proof uses.
-/
module

public import proofs.«01_k».proof.Proof.Sched
public import Idealize.ShloMosaic.Lib.Pipeline.Value

@[expose] public section

noncomputable section

namespace Cert.KernelIdeal.Moe

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's programs. -/
abbrev PR (F : FTy → Type) (α : Type) : Type 1 := Prog (TpuEff nD τ sig (Elt F) Λ₀ .tc) α

/-- The weakest precondition the body's proof works with. -/
abbrev WP (c : Dev nD) {α : Type} (p : PR F α) (Q : α → sProp 𝕄) : sProp 𝕄 :=
  wp frame (wpE (defs₀ (F := F)) 𝒱₀ (c : Thread nD τ) none) Set.univ p Q

section Steps
variable (c : Dev nD) {α : Type} {Q : α → sProp (MT nD τ sig Unit (Elt F) ℕ UU ℕ)}

/-- A load of rectangle `r` from elements `A` that include it: the value is what the contents `f` hold there. -/
theorem wp_ld {cs : CoreSpace} {s : Shape} {e : EltTy} (M : Memref sig .tc cs s e) (r : Rect s)
    {A : Finset (Idx (M.view.loc (c : Thread nD τ)))} {f : Buf (Elt F) (M.view.loc (c : Thread nD τ))}
    (hA : (M.access r).set ⊆ A) {hl : M.view.LoadsAt r.toLoadRect} {kk : (r.shape.Idx → Elt F e) → PR F α}
    (v : r.shape.Idx → Elt F e) (hv : (M.access r).read (Elt F) f = v) :
    (M.view.loc (c : Thread nD τ) ↦[A]{fullShare} f : sProp 𝕄)
      ⊢ iprop(((M.view.loc (c : Thread nD τ) ↦[A]{fullShare} f) -∗ WP c (kk v) Q) -∗ WP c (Prog.op (.load M r.toLoadRect hl) kk) Q) := by
  subst hv
  exact wp_load_rect 𝒱₀ (c : Thread nD τ) none Set.univ (m := M) (r := r) hA

/-- A store of `w` at rectangle `r`: the elements end at contents `g`, if the written contents agree with `g` there. -/
theorem wp_st {cs : CoreSpace} {s : Shape} {e : EltTy} (M : Memref sig .tc cs s e) (r : Rect s)
    {A : Finset (Idx (M.view.loc (c : Thread nD τ)))} {f : Buf (Elt F) (M.view.loc (c : Thread nD τ))} {w : r.shape.Idx → Elt F e}
    (hA : (M.access r).set ⊆ A) (g : Buf (Elt F) (M.view.loc (c : Thread nD τ)))
    (hg : ∀ i ∈ A, (M.access r).write (Elt F) f w Finset.univ i = g i)
    {hx : (M.access r).Stores Finset.univ} {hm : (Finset.univ : Finset r.shape.Idx) = Finset.univ ∨ ∀ a, r.stride a = 1} {kk : PUnit → PR F α} :
    (M.view.loc (c : Thread nD τ) ↦[A]{fullShare} f : sProp 𝕄)
      ⊢ iprop(((M.view.loc (c : Thread nD τ) ↦[A]{fullShare} g) -∗ WP c (kk ⟨⟩) Q) -∗ WP c (Prog.op (.store M r w Finset.univ hx hm) kk) Q) := by
  rw [← pointsTo_congr hg]
  exact wp_store 𝒱₀ (c : Thread nD τ) none Set.univ (m := M) (r := r) (w := w) (Mk := Finset.univ) hA

/-- A cell that has been paid, or will be: the right to wait on it, with the credit a wait spends. -/
def Wt (c : Dev nD) (k : Fin 21) : sProp 𝕄 := iprop(WaitR m ρ c k ∗ cred (tallyAt (kcell (c, k)) () (amt k)))

/-- A wait on cell `k`: its payload, and the cell closed. -/
theorem wp_wt (k : Fin 21) (S : Finset (Fin 21)) (hS : ∀ k' ∈ S, lev k < lev k') {sm : SemLoc sig} (hs : sm = csem k) {n : ℕ} (hn : n = amt k)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm n K)
    {kk : PUnit → PR F α} :
    iprop(levAts L lv ∗ Wt m ρ c k ∗ owesE c (owed c S))
      ⊢ iprop(((owesE c (owed c S) ∗ semVal (kcell (c, k)) 0 ∗ pay m ρ k c) -∗ WP c (kk ⟨⟩) Q) -∗ WP c (Prog.op w kk) Q) := by
  subst hs hn
  unfold Wt WaitR owesE
  iintro ⟨#Hlev, ⟨⟨⟨%κ, #HI⟩, Hat⟩, Hc⟩, ⟨%W, HO⟩⟩ Hk
  iapply (Rounds.wp_wait_rest_token 𝒱₀ ER (Rd m ρ) (c : Thread nD τ) none (κ := κ) hw (Set.mem_univ _) () (O := owed c S) (W := W) (R := 0) (m := 0) (T := ∅)
      (by rw [Nat.zero_add, expect_cell])) $$ [Hc HO Hat]
  · isplitr; · iexact HI
    isplitl [Hc]; · iexact Hc
    isplitl [HO]; · iexact HO
    isplitr; · iapply (mayWait_cell c k S hS); iexact Hlev
    iexact Hat
  iintro ⟨HO, Hat, -, Hpay⟩
  ihave Hp := (Entails.of_eq (rest_cell m ρ c k)) $$ Hpay
  imod (Rounds.cell_close ER (Rd m ρ) (Set.mem_univ κ) (fun h => h) (R := 0 + 1) (duties_later m ρ (kcell (c, k)))) $$ [Hat] with Hz
  · isplitr; · iexact HI
    iexact Hat
  iapply Hk
  isplitl [HO]; · iexists _; iexact HO
  isplitl [Hz]; · iexact Hz
  iexact Hp

/-- A wait for a transfer on cell `k`, its amount read off the landing view. -/
theorem wp_wd (k : Fin 21) (S : Finset (Fin 21)) (hS : ∀ k' ∈ S, lev k < lev k') {sp sp' : Space} {s s' : Shape} {e e' : EltTy} (dst : Memref sig .tc sp s e)
    {src : Memref sig .tc sp' s' e'} {sm : DmaSem sig} (hs : SemLoc.dma sm = csem k) (hn : dst.view.dmaCredit = amt k)
    {hsrc : src.view.WordExact} {hdst : dst.view.WordExact} {kk : PUnit → PR F α} :
    iprop(levAts L lv ∗ Wt m ρ c k ∗ owesE c (owed c S))
      ⊢ iprop(((owesE c (owed c S) ∗ semVal (kcell (c, k)) 0 ∗ pay m ρ k c) -∗ WP c (kk ⟨⟩) Q) -∗ WP c (Prog.op (.waitDma2 sm src dst hsrc hdst) kk) Q) :=
  wp_wt m ρ c k S hS hs hn (wpE_waitDma2_eq 𝒱₀ (c : Thread nD τ) none Set.univ)

/-- A local copy that pays cell `k`: the source is elements `A` at `fs`, the destination elements `B`, which end at what the source reads. -/
theorem wp_cp (k : Fin 21) {sp sp' : Space} {s : Shape} {e : EltTy} (src : Memref sig .tc sp s e) (dst : Memref sig .tc sp' s e)
    {sm : SemLoc sig} (hs : sm = csem k) (hn : dst.view.amount (csem k) = amt k)
    {hsrc : src.view.WordExact} {hdst : dst.view.WordExact} {hsem : DmaTarget.Typed (nD := nD) (τ := τ) (p := Proc.tc) sp sm (.here dst)} {kk : PUnit → PR F α}
    {A : Finset (Idx (src.view.loc (c : Thread nD τ)))} (hA : src.view.set = A) {B : Finset (Idx (dst.view.loc (c : Thread nD τ)))} (hB : dst.view.set = B)
    {fs : Buf (Elt F) (src.view.loc (c : Thread nD τ))} {fd : Buf (Elt F) (dst.view.loc (c : Thread nD τ))} (g : Buf (Elt F) (dst.view.loc (c : Thread nD τ)))
    (hg : dst.view.write (Elt F) fd (src.view.read (Elt F) fs) Finset.univ = g)
    (hpay : pay m ρ k c = iprop((dst.view.loc (c : Thread nD τ) ↦[B]{fullShare} g) ∗ (src.view.loc (c : Thread nD τ) ↦[A]{fullShare} fs))) :
    iprop(PayR m ρ c k ∗ WaitR m ρ c k ∗ (src.view.loc (c : Thread nD τ) ↦[A]{fullShare} fs) ∗ (dst.view.loc (c : Thread nD τ) ↦[B]{fullShare} fd))
      ⊢ iprop((Wt m ρ c k -∗ WP c (kk ⟨⟩) Q) -∗ WP c (Prog.op (.enqueueDma src (.here dst) sm hsrc hdst hsem) kk) Q) := by
  subst hs hA hB hg
  unfold Wt PayR
  iintro ⟨⟨⟨%κ, #HI⟩, Htok, Hr⟩, HW, Hs, Hd⟩ Hk
  iapply (Rounds.wp_copy_pointsTo 𝒱₀ ER (Rd m ρ) (c : Thread nD τ) none (src := src) (dst := dst) (r := 0) (d := ()) (κ := κ)
      (by rw [duties_cell]; exact Finset.mem_singleton_self _) () (amt k) hn (amount_cell m ρ c k ())
      (Entails.of_eq (hpay.symm.trans (payload_cell m ρ c k ()).symm))) $$ [Htok Hr Hs Hd]
  · isplitr; · iexact HI
    isplitl [Hs]; · iexact Hs
    isplitl [Hd]; · iexact Hd
    isplitl [Htok]; · iexact Htok
    iexact Hr
  iintro Hc
  iapply Hk
  isplitl [HW]; · iexact HW
  iexact Hc

/-- A transfer to the peer that pays the device's own send cell `k₁` and the peer's receive cell `k₂`: the landed elements `B` end at contents `g`. -/
theorem wp_tx (k₁ k₂ : Fin 21) {S S' : Finset (Fin 21)} (hk : k₂ ∈ S) (hS : S.erase k₂ = S') {c' : Dev nD} (hc' : c' = peer c) {sp sp' : Space} {s : Shape} {e : EltTy}
    (src : Memref sig .tc sp s e) (dst : Memref sig .tc sp' s e) {hsc : dst.view.ref.isScScratch = false}
    {sS sm : SemLoc sig} (hs₁ : sS = csem k₁) (hs₂ : sm = csem k₂) (hn : dst.view.amount (csem k₂) = amt k₂) (hn' : amt k₁ = amt k₂)
    {hsrc : src.view.WordExact} {hdst : dst.view.WordExact} {hsem : DmaTarget.Typed (nD := nD) (τ := τ) (p := Proc.tc) sp sm (.remote (c' : Thread nD τ) dst sS hsc)} {kk : PUnit → PR F α}
    {A : Finset (Idx (src.view.loc (c : Thread nD τ)))} (hA : src.view.set = A) {B : Finset (Idx (dst.view.loc (peer c : Thread nD τ)))} (hB : dst.view.set = B)
    {fs : Buf (Elt F) (src.view.loc (c : Thread nD τ))} {fd : Buf (Elt F) (dst.view.loc (peer c : Thread nD τ))} (g : Buf (Elt F) (dst.view.loc (peer c : Thread nD τ)))
    (hg : ∀ i ∈ B, dst.view.write (Elt F) fd (src.view.read (Elt F) fs) Finset.univ i = g i)
    (hpay₁ : pay m ρ k₁ c = (src.view.loc (c : Thread nD τ) ↦[A]{fullShare} fs))
    (hpay₂ : pay m ρ k₂ (peer c) = (dst.view.loc (peer c : Thread nD τ) ↦[B]{fullShare} g)) :
    iprop(PayR m ρ c k₁ ∗ WaitR m ρ c k₁ ∗ PayR m ρ (peer c) k₂ ∗ (src.view.loc (c : Thread nD τ) ↦[A]{fullShare} fs)
        ∗ (dst.view.loc (peer c : Thread nD τ) ↦[B]{fullShare} fd) ∗ owesE c (owed c S))
      ⊢ iprop(((Wt m ρ c k₁ ∗ owesE c (owed c S')) -∗ WP c (kk ⟨⟩) Q)
          -∗ WP c (Prog.op (.enqueueDma src (.remote (c' : Thread nD τ) dst sS hsc) sm hsrc hdst hsem) kk) Q) := by
  subst hs₁ hs₂ hc' hA hB hS
  rw [← pointsTo_congr hg] at hpay₂
  unfold Wt PayR owesE
  iintro ⟨⟨⟨%κ₁, #HI₁⟩, Htok₁, Hr₁⟩, HW, ⟨⟨%κ₂, #HI₂⟩, Htok₂, Hr₂⟩, Hs, Hd, ⟨%W, HO⟩⟩ Hk
  iapply (Rounds.wp_send_pointsTo 𝒱₀ ER (Rd m ρ) (c : Thread nD τ) none (c' := (peer c : Thread nD τ)) (src := src) (dst := dst) (κ₁ := κ₁) (κ₂ := κ₂) (r₁ := 0) (r₂ := 0) (d₁ := ()) (d₂ := ()) (fd := fd)
      (by rw [duties_cell]; exact Finset.mem_singleton_self _) (by rw [duties_cell]; exact Finset.mem_singleton_self _) () () (amt k₂)
      hn ((amount_cell m ρ c k₁ ()).trans hn') (amount_cell m ρ (peer c) k₂ ())
      (owed c (S.erase k₂)) (owed_erase c hk) (W := W) (Entails.of_eq (hpay₁.symm.trans (payload_cell m ρ c k₁ ()).symm))
      (Entails.of_eq (hpay₂.symm.trans (payload_cell m ρ (peer c) k₂ ()).symm))) $$ [Htok₁ Hr₁ Htok₂ Hr₂ Hs Hd HO]
  · isplitr; · iexact HI₁
    isplitr; · iexact HI₂
    isplitl [Hs]; · iexact Hs
    isplitl [Hd]; · iexact Hd
    isplitl [HO]; · iexact HO
    isplitl [Htok₁]; · iexact Htok₁
    isplitl [Hr₁]; · iexact Hr₁
    isplitl [Htok₂]; · iexact Htok₂
    iexact Hr₂
  iintro ⟨Hc, HO⟩
  iapply Hk
  isplitl [HW Hc]
  · isplitl [HW]; · iexact HW
    rw [hn']; iexact Hc
  iexists _; iexact HO

/-- The barrier signal to the peer. -/
theorem wp_sg {S S' : Finset (Fin 21)} (hk : (0 : Fin 21) ∈ S) (hS : S.erase 0 = S') {c' : Dev nD} (hc' : c' = peer c) {kk : PUnit → PR F α} :
    iprop(PayR m ρ (peer c) 0 ∗ pay m ρ 0 (peer c) ∗ owesE c (owed c S))
      ⊢ iprop((owesE c (owed c S') -∗ WP c (kk ⟨⟩) Q) -∗ WP c (Prog.op (.semSignal (c' : Thread nD τ) barS.sem 1) kk) Q) := by
  subst hc' hS
  unfold PayR owesE
  iintro ⟨⟨⟨%κ, #HI⟩, Htok, Hr⟩, Hp, ⟨%W, HO⟩⟩ Hk
  iapply (Rounds.wp_signal 𝒱₀ ER (Rd m ρ) (c : Thread nD τ) none (dst := (peer c : Thread nD τ)) (κ := κ) (r := 0) (d := ())
      (by show _ ∈ (Rd m ρ).duties (kcell (peer c, 0)) 0; rw [duties_cell]; exact Finset.mem_singleton_self _) (amount_cell m ρ (peer c) 0 ())
      () (owed c (S.erase 0)) (owed_erase c hk) (W := W)) $$ [Htok Hr Hp HO]
  · isplitr; · iexact HI
    isplitl [HO]; · iexact HO
    isplitl [Htok]; · iexact Htok
    isplitl [Hp]; · rw [show (Rd m ρ).payload ((peer c : Thread nD τ), SemLoc.reg barS.sem) 0 () = pay m ρ 0 (peer c) from payload_cell m ρ (peer c) 0 ()]; iexact Hp
    iexact Hr
  iintro HO
  iapply Hk
  iexists _; iexact HO

end Steps

/-! ## Sets of elements -/

/-- An element is in a band of rows of a 640-row buffer iff its row is. -/
theorem mem_rows {o n : ℕ} {h} {i : S640x1024.Idx} : i ∈ (Rect.unit (s := S640x1024) ![o, 0] ![n, 1024] h).set ↔ o ≤ (i 0).val ∧ (i 0).val < o + n := by
  have h1 : (i 1).val < 1024 := (i 1).isLt
  rw [Rect.mem_set_unit, Fin.forall_fin_two]
  constructor
  · rintro ⟨h, -⟩; exact h
  · intro h; exact ⟨h, Nat.zero_le _, by simpa using h1⟩

/-- An element is in a band of rows of one expert's first weights iff its expert and row are. -/
theorem mem_A {e o n : ℕ} {h} {i : S2x1024x2048.Idx} : i ∈ (Rect.unit (s := S2x1024x2048) ![e, o, 0] ![1, n, 2048] h).set ↔ (i 0).val = e ∧ o ≤ (i 1).val ∧ (i 1).val < o + n := by
  have h2 : (i 2).val < 2048 := (i 2).isLt
  rw [Rect.mem_set_unit]
  constructor
  · intro h
    have a0 := h 0; have a1 := h 1
    simp at a0 a1; omega
  · intro h a
    fin_cases a
    · simp; omega
    · simp; omega
    · simpa using h2

/-- An element is in a band of rows of one expert's second weights iff its expert and row are. -/
theorem mem_B {e o n : ℕ} {h} {i : S2x2048x1024.Idx} : i ∈ (Rect.unit (s := S2x2048x1024) ![e, o, 0] ![1, n, 1024] h).set ↔ (i 0).val = e ∧ o ≤ (i 1).val ∧ (i 1).val < o + n := by
  have h2 : (i 2).val < 1024 := (i 2).isLt
  rw [Rect.mem_set_unit]
  constructor
  · intro h
    have a0 := h 0; have a1 := h 1
    simp at a0 a1; omega
  · intro h a
    fin_cases a
    · simp; omega
    · simp; omega
    · simpa using h2

/-- Two disjoint sets and their union. -/
structure Cut {ι : Type} [DecidableEq ι] (K I J : Finset ι) : Prop where
  union : K = I ∪ J
  disj : Disjoint I J

/-- A set is cut in two when each of its elements lies in exactly one part, and only they. -/
theorem Cut.of {ι : Type} [DecidableEq ι] {K I J : Finset ι} (h : ∀ i, (i ∈ K ↔ i ∈ I ∨ i ∈ J) ∧ ¬ (i ∈ I ∧ i ∈ J)) : Cut K I J :=
  ⟨by ext i; rw [Finset.mem_union]; exact (h i).1, by rw [Finset.disjoint_left]; exact fun i hi hj => (h i).2 ⟨hi, hj⟩⟩

/-- The slots are cut into two halves. -/
theorem cutH : Cut (Finset.univ : Finset S640x1024.Idx) rH0.set rH1.set := .of fun i => by
  have h0 : (i 0).val < 640 := (i 0).isLt
  constructor
  · refine ⟨fun _ => ?_, fun _ => Finset.mem_univ _⟩
    rw [show i ∈ rH0.set ↔ _ from mem_rows, show i ∈ rH1.set ↔ _ from mem_rows]; omega
  · rw [show i ∈ rH0.set ↔ _ from mem_rows, show i ∈ rH1.set ↔ _ from mem_rows]; omega
/-- The first half of the slots is cut into chunks 0 and 1. -/
theorem cutQ0 : Cut (rH0.set : Finset S640x1024.Idx) rQ0.set rQ1.set := .of fun i => by
  rw [show i ∈ rH0.set ↔ _ from mem_rows, show i ∈ rQ0.set ↔ _ from mem_rows, show i ∈ rQ1.set ↔ _ from mem_rows]; omega
/-- The second half of the slots is cut into chunks 2 and 3. -/
theorem cutQ1 : Cut (rH1.set : Finset S640x1024.Idx) rQ2.set rQ3.set := .of fun i => by
  rw [show i ∈ rH1.set ↔ _ from mem_rows, show i ∈ rQ2.set ↔ _ from mem_rows, show i ∈ rQ3.set ↔ _ from mem_rows]; omega
/-- The first weights of expert 0 are cut into two halves. -/
theorem cutA0 : Cut (rA0.set : Finset S2x1024x2048.Idx) rA00.set rA01.set := .of fun i => by
  have h0 : (i 1).val < 1024 := (i 1).isLt
  rw [show i ∈ rA0.set ↔ _ from mem_A, show i ∈ rA00.set ↔ _ from mem_A, show i ∈ rA01.set ↔ _ from mem_A]; omega
/-- The first weights of expert 1 are cut into two halves. -/
theorem cutA1 : Cut (rA1.set : Finset S2x1024x2048.Idx) rA10.set rA11.set := .of fun i => by
  have h0 : (i 1).val < 1024 := (i 1).isLt
  rw [show i ∈ rA1.set ↔ _ from mem_A, show i ∈ rA10.set ↔ _ from mem_A, show i ∈ rA11.set ↔ _ from mem_A]; omega
/-- The first weights are cut by expert. -/
theorem cutA : Cut (Finset.univ : Finset S2x1024x2048.Idx) rA0.set rA1.set := .of fun i => by
  have h0 : (i 1).val < 1024 := (i 1).isLt
  have h1 : (i 0).val < 2 := (i 0).isLt
  rw [show i ∈ rA0.set ↔ _ from mem_A, show i ∈ rA1.set ↔ _ from mem_A]
  refine ⟨⟨fun _ => by omega, fun _ => Finset.mem_univ _⟩, by omega⟩
/-- The second weights of expert 0 are cut into two halves. -/
theorem cutB0 : Cut (rB0.set : Finset S2x2048x1024.Idx) rB00.set rB01.set := .of fun i => by
  have h0 : (i 1).val < 2048 := (i 1).isLt
  rw [show i ∈ rB0.set ↔ _ from mem_B, show i ∈ rB00.set ↔ _ from mem_B, show i ∈ rB01.set ↔ _ from mem_B]; omega
/-- The second weights of expert 1 are cut into two halves. -/
theorem cutB1 : Cut (rB1.set : Finset S2x2048x1024.Idx) rB10.set rB11.set := .of fun i => by
  have h0 : (i 1).val < 2048 := (i 1).isLt
  rw [show i ∈ rB1.set ↔ _ from mem_B, show i ∈ rB10.set ↔ _ from mem_B, show i ∈ rB11.set ↔ _ from mem_B]; omega
/-- The second weights are cut by expert. -/
theorem cutB : Cut (Finset.univ : Finset S2x2048x1024.Idx) rB0.set rB1.set := .of fun i => by
  have h0 : (i 1).val < 2048 := (i 1).isLt
  have h1 : (i 0).val < 2 := (i 0).isLt
  rw [show i ∈ rB0.set ↔ _ from mem_B, show i ∈ rB1.set ↔ _ from mem_B]
  refine ⟨⟨fun _ => by omega, fun _ => Finset.mem_univ _⟩, by omega⟩

omit [FloatOps F] in
/-- The elements of a cut, held apart or together. -/
theorem ptR_cut {b : Ref sig .tc} (c : Dev nD) {K I J : Finset (Idx ((c : Thread nD τ).loc b))} (h : Cut K I J) (f : Buf (Elt F) ((c : Thread nD τ).loc b)) :
    (ptR b c K f : sProp 𝕄) ⊣⊢ iprop(ptR b c I f ∗ ptR b c J f) := by
  obtain ⟨rfl, hd⟩ := h
  exact pointsTo_union hd

/-! ## Contents -/

omit [FloatOps F] in
/-- A store of what `g` holds on `r` leaves the contents at `g` there. -/
theorem st_agr (b : Ref sig .tc) (r : Rect b.ty.shape) (f g : b.ty.Contents (Elt F)) (w : r.shape.Idx → Elt F b.ty.elt) (hw : ∀ j, w j = g (r.emb j)) :
    ∀ i ∈ r.set, ((Memref.whole b).access r).write (Elt F) f w Finset.univ i = g i := by
  intro i hi
  rw [← Rect.map_emb_univ, Finset.mem_map] at hi
  obtain ⟨j, -, rfl⟩ := hi
  exact (View.write_emb_of_mem (v := (Memref.whole b).access r) f w (Finset.mem_univ j)).trans (hw j)

omit [FloatOps F] in
/-- A block of rows copied from `xs` to `xr` is the block of the copied contents. -/
theorem cp_xr (r : Rect S640x1024) (h h') (fd : (cc0_scratch1 : Ref sig .tc).ty.Contents (Elt F)) (fs : (cc0_scratch0 : Ref sig .tc).ty.Contents (Elt F)) :
    ∀ i ∈ r.set, (xrM.slice r h).view.write (Elt F) fd ((xsM.slice r h').view.read (Elt F) fs) Finset.univ i = fs i :=
  st_agr cc0_scratch1 r fd fs _ fun _ => rfl

omit [FloatOps F] in
/-- A block of rows copied from `xr` to `ret` is the block of the copied contents. -/
theorem cp_re (r : Rect S640x1024) (h h') (fd : (cc0_scratch2 : Ref sig .tc).ty.Contents (Elt F)) (fs : (cc0_scratch1 : Ref sig .tc).ty.Contents (Elt F)) :
    ∀ i ∈ r.set, (reM.slice r h).view.write (Elt F) fd ((xrM.slice r h').view.read (Elt F) fs) Finset.univ i = fs i :=
  st_agr cc0_scratch2 r fd fs _ fun _ => rfl

/-- The staged halves of the weights, rounded and reshaped, are the halves of the rounded weights. -/
theorem p13 (c : Dev nD) (j) : k0_pay13 (w1S00.view.read (Elt F) (w1 m c)) j = T1 m c (rA00.emb j) := by
  show shapeCast S1x512x2048 (shapeCast S512x2048 (fun j => T1 m c (rA00.emb j)) _) _ j = _
  rw [shapeCast_shapeCast]
/-- The second half of the first weights of expert 0, as stored, is its part of the converted weights. -/
theorem p14 (c : Dev nD) (j) : k0_pay14 (w1S01.view.read (Elt F) (w1 m c)) j = T1 m c (rA01.emb j) := by
  show shapeCast S1x512x2048 (shapeCast S512x2048 (fun j => T1 m c (rA01.emb j)) _) _ j = _
  rw [shapeCast_shapeCast]
/-- The first half of the second weights of expert 0, as stored, is its part of the converted weights. -/
theorem p15 (c : Dev nD) (j) : k0_pay15 (w2S00.view.read (Elt F) (w2 m c)) j = T2 m c (rB00.emb j) := by
  show shapeCast S1x1024x1024 (shapeCast S1024x1024 (fun j => T2 m c (rB00.emb j)) _) _ j = _
  rw [shapeCast_shapeCast]
/-- The second half of the second weights of expert 0, as stored, is its part of the converted weights. -/
theorem p16 (c : Dev nD) (j) : k0_pay16 (w2S01.view.read (Elt F) (w2 m c)) j = T2 m c (rB01.emb j) := by
  show shapeCast S1x1024x1024 (shapeCast S1024x1024 (fun j => T2 m c (rB01.emb j)) _) _ j = _
  rw [shapeCast_shapeCast]
/-- The first half of the first weights of expert 1, as stored, is its part of the converted weights. -/
theorem p23 (c : Dev nD) (j) : k0_pay23 (w1S10.view.read (Elt F) (w1 m c)) j = T1 m c (rA10.emb j) := by
  show shapeCast S1x512x2048 (shapeCast S512x2048 (fun j => T1 m c (rA10.emb j)) _) _ j = _
  rw [shapeCast_shapeCast]
/-- The second half of the first weights of expert 1, as stored, is its part of the converted weights. -/
theorem p25 (c : Dev nD) (j) : k0_pay25 (k0_pay24 (w1S11.view.read (Elt F) (w1 m c))) j = T1 m c (rA11.emb j) := by
  show shapeCast S1x512x2048 (shapeCast S512x2048 (fun j => T1 m c (rA11.emb j)) _) _ j = _
  rw [shapeCast_shapeCast]
/-- The first half of the second weights of expert 1, as stored, is its part of the converted weights. -/
theorem p26 (c : Dev nD) (j) : k0_pay26 (w2S10.view.read (Elt F) (w2 m c)) j = T2 m c (rB10.emb j) := by
  show shapeCast S1x1024x1024 (shapeCast S1024x1024 (fun j => T2 m c (rB10.emb j)) _) _ j = _
  rw [shapeCast_shapeCast]
/-- The second half of the second weights of expert 1, as stored, is its part of the converted weights. -/
theorem p27 (c : Dev nD) (j) : k0_pay27 (w2S11.view.read (Elt F) (w2 m c)) j = T2 m c (rB11.emb j) := by
  show shapeCast S1x1024x1024 (shapeCast S1024x1024 (fun j => T2 m c (rB11.emb j)) _) _ j = _
  rw [shapeCast_shapeCast]

end Cert.KernelIdeal.Moe

end
-- ==== Proof.PartsA.lean ====
/-
The parts of the kernel's body, each with what it needs and what it leaves.
-/
module

public import proofs.«01_k».proof.Proof.Steps

@[expose] public section

noncomputable section

namespace Cert.KernelIdeal.Moe

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole of a staging buffer, of the output block, of the assignment block and of a 640-row buffer. -/
abbrev rFx : Rect S1024x1024 := Rect.unit (s := S1024x1024) ![0, 0] S1024x1024.size inb_S1024x1024_S1024x1024_0_0
abbrev rFs : Rect S512x2048 := Rect.unit (s := S512x2048) ![0, 0] S512x2048.size inb_S512x2048_S512x2048_0_0
abbrev rFa : Rect S1024 := Rect.unit (s := S1024) ![0] S1024.size inb_S1024_S1024_0
abbrev rFb : Rect S640x1024 := Rect.unit (s := S640x1024) ![0, 0] S640x1024.size inb_S640x1024_S640x1024_0_0

/-- The device's other coordinates and the words the body derives from them, as the kernel computes them. -/
def y2 (c : Dev nD) : BitVec 32 := Scalar.remsi (Scalar.divsi (Dev.word c) 8#32) 2#32
def y8 (c : Dev nD) : BitVec 32 := Scalar.remsi (Scalar.divsi (Dev.word c) 1#32) 4#32
def y28 (c : Dev nD) : BitVec 32 := Scalar.addi 0#32 (Scalar.muli (y2 c) 8#32)

/-- The duties still open after each payment of the body. -/
abbrev D6 : Finset (Fin 21) := {7, 8, 9, 10, 11, 12}
abbrev D5 : Finset (Fin 21) := {8, 9, 10, 11, 12}
abbrev D4 : Finset (Fin 21) := {9, 10, 11, 12}
abbrev D3 : Finset (Fin 21) := {10, 11, 12}
abbrev D2 : Finset (Fin 21) := {11, 12}
abbrev D1 : Finset (Fin 21) := {12}
abbrev D0 : Finset (Fin 21) := ∅

/-- A program that returns keeps what it has. -/
theorem wp_done {α : Type} (c : Dev nD) {a : α} (b : α) (h : a = b) {Q : α → sProp (MT nD τ sig Unit (Elt F) ℕ UU ℕ)} :
    Q b ⊢ WP (F := F) c (Prog.ret a) Q := by
  subst h; unfold WP; rw [wp_ret]; iintro H; imodintro; iexact H

/-! ## The payments, unfolded -/
theorem pay_0 (c : Dev nD) : pay m ρ 0 c = iprop((∃ f, ptR cc0_scratch1 (peer c) Finset.univ f) ∗ (∃ f, ptR cc0_scratch2 (peer c) Finset.univ f)) := rfl
/-- What the send of the first half of the packed tokens hands over. -/
theorem pay_1 (c : Dev nD) : pay m ρ 1 c = ptR cc0_scratch0 c rH0.set (XS m ρ c) := rfl
/-- What the send of the second half of the packed tokens hands over. -/
theorem pay_2 (c : Dev nD) : pay m ρ 2 c = ptR cc0_scratch0 c rH1.set (XS m ρ c) := rfl
/-- What the send of chunk 0 of the results hands over. -/
theorem pay_3 (c : Dev nD) : pay m ρ 3 c = ptR cc0_scratch1 c rQ0.set (RO m ρ c) := rfl
/-- What the send of chunk 1 of the results hands over. -/
theorem pay_4 (c : Dev nD) : pay m ρ 4 c = ptR cc0_scratch1 c rQ1.set (RO m ρ c) := rfl
/-- What the send of chunk 2 of the results hands over. -/
theorem pay_5 (c : Dev nD) : pay m ρ 5 c = ptR cc0_scratch1 c rQ2.set (RO m ρ c) := rfl
/-- What the send of chunk 3 of the results hands over. -/
theorem pay_6 (c : Dev nD) : pay m ρ 6 c = ptR cc0_scratch1 c rQ3.set (RO m ρ c) := rfl
/-- What the landing of the first half of the tokens hands over. -/
theorem pay_7 (c : Dev nD) : pay m ρ 7 c = ptR cc0_scratch1 c rH0.set (XS m ρ (peer c)) := rfl
/-- What the landing of the second half of the tokens hands over. -/
theorem pay_8 (c : Dev nD) : pay m ρ 8 c = ptR cc0_scratch1 c rH1.set (XS m ρ (peer c)) := rfl
/-- What the landing of chunk 0 of the results hands over. -/
theorem pay_9 (c : Dev nD) : pay m ρ 9 c = ptR cc0_scratch2 c rQ0.set (RO m ρ (peer c)) := rfl
/-- What the landing of chunk 1 of the results hands over. -/
theorem pay_10 (c : Dev nD) : pay m ρ 10 c = ptR cc0_scratch2 c rQ1.set (RO m ρ (peer c)) := rfl
/-- What the landing of chunk 2 of the results hands over. -/
theorem pay_11 (c : Dev nD) : pay m ρ 11 c = ptR cc0_scratch2 c rQ2.set (RO m ρ (peer c)) := rfl
/-- What the landing of chunk 3 of the results hands over. -/
theorem pay_12 (c : Dev nD) : pay m ρ 12 c = ptR cc0_scratch2 c rQ3.set (RO m ρ (peer c)) := rfl
/-- What the load of the first half of the first weights of expert 0 hands over. -/
theorem pay_13 (c : Dev nD) : pay m ρ 13 c = iprop(ptR cc0_scratch3 c Finset.univ (w1S00.view.read (Elt F) (w1 m c)) ∗ ptR main_arg2 c rA00.set (w1 m c)) := rfl
/-- What the load of the second half of the first weights of expert 0 hands over. -/
theorem pay_14 (c : Dev nD) : pay m ρ 14 c = iprop(ptR cc0_scratch4 c Finset.univ (w1S01.view.read (Elt F) (w1 m c)) ∗ ptR main_arg2 c rA01.set (w1 m c)) := rfl
/-- What the load of the first half of the second weights of expert 0 hands over. -/
theorem pay_15 (c : Dev nD) : pay m ρ 15 c = iprop(ptR cc0_scratch5 c Finset.univ (w2S00.view.read (Elt F) (w2 m c)) ∗ ptR main_arg3 c rB00.set (w2 m c)) := rfl
/-- What the load of the second half of the second weights of expert 0 hands over. -/
theorem pay_16 (c : Dev nD) : pay m ρ 16 c = iprop(ptR cc0_scratch6 c Finset.univ (w2S01.view.read (Elt F) (w2 m c)) ∗ ptR main_arg3 c rB01.set (w2 m c)) := rfl
/-- What the load of the first half of the first weights of expert 1 hands over. -/
theorem pay_17 (c : Dev nD) : pay m ρ 17 c = iprop(ptR cc0_scratch3 c Finset.univ (w1S10.view.read (Elt F) (w1 m c)) ∗ ptR main_arg2 c rA10.set (w1 m c)) := rfl
/-- What the load of the second half of the first weights of expert 1 hands over. -/
theorem pay_18 (c : Dev nD) : pay m ρ 18 c = iprop(ptR cc0_scratch4 c Finset.univ (w1S11.view.read (Elt F) (w1 m c)) ∗ ptR main_arg2 c rA11.set (w1 m c)) := rfl
/-- What the load of the first half of the second weights of expert 1 hands over. -/
theorem pay_19 (c : Dev nD) : pay m ρ 19 c = iprop(ptR cc0_scratch5 c Finset.univ (w2S10.view.read (Elt F) (w2 m c)) ∗ ptR main_arg3 c rB10.set (w2 m c)) := rfl
/-- What the load of the second half of the second weights of expert 1 hands over. -/
theorem pay_20 (c : Dev nD) : pay m ρ 20 c = iprop(ptR cc0_scratch6 c Finset.univ (w2S11.view.read (Elt F) (w2 m c)) ∗ ptR main_arg3 c rB11.set (w2 m c)) := rfl
/-- What a device hands its partner at the barrier: its two landing buffers. -/
theorem pay_0' (c : Dev nD) : pay m ρ 0 (peer c) = iprop((∃ f, ptR cc0_scratch1 c Finset.univ f) ∗ (∃ f, ptR cc0_scratch2 c Finset.univ f)) := by
  rw [pay_0, peer_peer]
/-- What the landing of the first half of the tokens hands over, seen from the sender. -/
theorem pay_tx7 (c : Dev nD) : pay m ρ 7 (peer c) = ptR cc0_scratch1 (peer c) rH0.set (XS m ρ c) := by
  rw [pay_7, peer_peer]
/-- What the landing of the second half of the tokens hands over, seen from the sender. -/
theorem pay_tx8 (c : Dev nD) : pay m ρ 8 (peer c) = ptR cc0_scratch1 (peer c) rH1.set (XS m ρ c) := by
  rw [pay_8, peer_peer]
/-- What the landing of chunk 0 of the results hands over, seen from the sender. -/
theorem pay_tx9 (c : Dev nD) : pay m ρ 9 (peer c) = ptR cc0_scratch2 (peer c) rQ0.set (RO m ρ c) := by
  rw [pay_9, peer_peer]
/-- What the landing of chunk 1 of the results hands over, seen from the sender. -/
theorem pay_tx10 (c : Dev nD) : pay m ρ 10 (peer c) = ptR cc0_scratch2 (peer c) rQ1.set (RO m ρ c) := by
  rw [pay_10, peer_peer]
/-- What the landing of chunk 2 of the results hands over, seen from the sender. -/
theorem pay_tx11 (c : Dev nD) : pay m ρ 11 (peer c) = ptR cc0_scratch2 (peer c) rQ2.set (RO m ρ c) := by
  rw [pay_11, peer_peer]
/-- What the landing of chunk 3 of the results hands over, seen from the sender. -/
theorem pay_tx12 (c : Dev nD) : pay m ρ 12 (peer c) = ptR cc0_scratch2 (peer c) rQ3.set (RO m ρ c) := by
  rw [pay_12, peer_peer]

/-! ## The returned block by quarters -/
theorem ro0 (c : Dev nD) (j : S160x1024.Idx) : (k0_pay20 (k0_pay19 (XQ m ρ c 0 inb_S640x1024_S160x1024_0_0) (W10 m c)) (W20 m c)) j = RO m ρ c (rQ0.emb j) := by
  have h : (j 0).val < 160 := (j 0).isLt
  have e0 : ((rQ0.emb j) 0).val = 0 + (j 0).val := by show 0 + 1 * (j 0).val = _; omega
  have e1 : (rQ0.emb j) 1 = j 1 := Fin.ext (by show 0 + 1 * (j 1).val = _; omega)
  have hq : qix (rQ0.emb j) = j := by
    have hv : ((rQ0.emb j) 0).val % 160 = (j 0).val := by rw [e0]; omega
    unfold qix
    funext a; match a with
    | ⟨0, _⟩ => exact Fin.ext hv
    | ⟨1, _⟩ => exact e1
  unfold RO
  rw [hq, e0]
  rw [if_pos (by omega)]
  rfl
/-- Chunk 1 of the results, as the body computes it, is its part of the whole block of results. -/
theorem ro1 (c : Dev nD) (j : S160x1024.Idx) : (k0_pay22 (k0_pay21 (XQ m ρ c 160 inb_S640x1024_S160x1024_160_0) (W10 m c) (W20 m c))) j = RO m ρ c (rQ1.emb j) := by
  have h : (j 0).val < 160 := (j 0).isLt
  have e0 : ((rQ1.emb j) 0).val = 160 + (j 0).val := by show 160 + 1 * (j 0).val = _; omega
  have e1 : (rQ1.emb j) 1 = j 1 := Fin.ext (by show 0 + 1 * (j 1).val = _; omega)
  have hq : qix (rQ1.emb j) = j := by
    have hv : ((rQ1.emb j) 0).val % 160 = (j 0).val := by rw [e0]; omega
    unfold qix
    funext a; match a with
    | ⟨0, _⟩ => exact Fin.ext hv
    | ⟨1, _⟩ => exact e1
  unfold RO
  rw [hq, e0]
  rw [if_neg (by omega), if_pos (by omega)]
  rfl
/-- Chunk 2 of the results, as the body computes it, is its part of the whole block of results. -/
theorem ro2 (c : Dev nD) (j : S160x1024.Idx) : (k0_pay31 (XQ m ρ c 320 inb_S640x1024_S160x1024_320_0) (k0_pay30 (W11 m c)) (constant S160x2048 .f32 0x00000000#32) (W21 m c)) j = RO m ρ c (rQ2.emb j) := by
  have h : (j 0).val < 160 := (j 0).isLt
  have e0 : ((rQ2.emb j) 0).val = 320 + (j 0).val := by show 320 + 1 * (j 0).val = _; omega
  have e1 : (rQ2.emb j) 1 = j 1 := Fin.ext (by show 0 + 1 * (j 1).val = _; omega)
  have hq : qix (rQ2.emb j) = j := by
    have hv : ((rQ2.emb j) 0).val % 160 = (j 0).val := by rw [e0]; omega
    unfold qix
    funext a; match a with
    | ⟨0, _⟩ => exact Fin.ext hv
    | ⟨1, _⟩ => exact e1
  unfold RO
  rw [hq, e0]
  rw [if_neg (by omega), if_neg (by omega), if_pos (by omega)]
  rfl
/-- Chunk 3 of the results, as the body computes it, is its part of the whole block of results. -/
theorem ro3 (c : Dev nD) (j : S160x1024.Idx) : (k0_pay33 (k0_pay32 (XQ m ρ c 480 inb_S640x1024_S160x1024_480_0) (W11 m c)) (W21 m c)) j = RO m ρ c (rQ3.emb j) := by
  have h : (j 0).val < 160 := (j 0).isLt
  have e0 : ((rQ3.emb j) 0).val = 480 + (j 0).val := by show 480 + 1 * (j 0).val = _; omega
  have e1 : (rQ3.emb j) 1 = j 1 := Fin.ext (by show 0 + 1 * (j 1).val = _; omega)
  have hq : qix (rQ3.emb j) = j := by
    have hv : ((rQ3.emb j) 0).val % 160 = (j 0).val := by rw [e0]; omega
    unfold qix
    funext a; match a with
    | ⟨0, _⟩ => exact Fin.ext hv
    | ⟨1, _⟩ => exact e1
  unfold RO
  rw [hq, e0]
  rw [if_neg (by omega), if_neg (by omega), if_neg (by omega)]
  rfl

/-! ## The parts -/

set_option maxHeartbeats 2000000 in

/-- The four copies of the first expert's weights start. -/
theorem part1_wp (c : Dev nD) {f3 f4 f5 f6} {Q : _ → sProp (MT nD τ sig Unit (Elt F) ℕ UU ℕ)} :
    iprop(PayR m ρ c 13 ∗ WaitR m ρ c 13 ∗ PayR m ρ c 14 ∗ WaitR m ρ c 14 ∗ PayR m ρ c 15 ∗ WaitR m ρ c 15 ∗ PayR m ρ c 16 ∗ WaitR m ρ c 16 ∗ ptR main_arg2 c rA00.set (w1 m c) ∗ ptR main_arg2 c rA01.set (w1 m c) ∗ ptR main_arg3 c rB00.set (w2 m c) ∗ ptR main_arg3 c rB01.set (w2 m c) ∗ ptR cc0_scratch3 c Finset.univ (f3) ∗ ptR cc0_scratch4 c Finset.univ (f4) ∗ ptR cc0_scratch5 c Finset.univ (f5) ∗ ptR cc0_scratch6 c Finset.univ (f6))
      ⊢ iprop(((Wt m ρ c 13 ∗ Wt m ρ c 14 ∗ Wt m ρ c 15 ∗ Wt m ρ c 16) -∗ Q ⟨c, y2 c, y5 c, y8 c, Scalar.subi 1#32 (y5 c), barS, y28 c⟩) -∗ WP (F := F) c (k0_part1 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 ) Q) := by
  rw [k0_part1_eq_skeleton]
  unfold k0_part1_skel
  simp only [semSignalWord, semWaitWord, Prog.lift, Prog.bind_op, Prog.bind_ret, Prog.pure_eq_ret, wp_deviceId]
  iintro ⟨HP13, HR13, HP14, HR14, HP15, HR15, HP16, HR16, HA00, HA01, HB00, HB01, Hs3, Hs4, Hs5, Hs6⟩ Hk
  iapply (wp_cp m ρ c 13 w1S00 s1aM rfl rfl ((Memref.set_view_squeeze _ _).trans (View.set_slice_whole _ _)) (View.set_whole _) (w1S00.view.read (Elt F) (w1 m c)) (View.write_whole_univ _ _ _) (pay_13 m ρ c)) $$ [HP13 HR13 HA00 Hs3]
  · isplitl [HP13]; · iexact HP13
    isplitl [HR13]; · iexact HR13
    isplitl [HA00]; · iexact HA00
    iexact Hs3
  iintro HW13
  iapply (wp_cp m ρ c 14 w1S01 s1bM rfl rfl ((Memref.set_view_squeeze _ _).trans (View.set_slice_whole _ _)) (View.set_whole _) (w1S01.view.read (Elt F) (w1 m c)) (View.write_whole_univ _ _ _) (pay_14 m ρ c)) $$ [HP14 HR14 HA01 Hs4]
  · isplitl [HP14]; · iexact HP14
    isplitl [HR14]; · iexact HR14
    isplitl [HA01]; · iexact HA01
    iexact Hs4
  iintro HW14
  iapply (wp_cp m ρ c 15 w2S00 s2aM rfl rfl ((Memref.set_view_squeeze _ _).trans (View.set_slice_whole _ _)) (View.set_whole _) (w2S00.view.read (Elt F) (w2 m c)) (View.write_whole_univ _ _ _) (pay_15 m ρ c)) $$ [HP15 HR15 HB00 Hs5]
  · isplitl [HP15]; · iexact HP15
    isplitl [HR15]; · iexact HR15
    isplitl [HB00]; · iexact HB00
    iexact Hs5
  iintro HW15
  iapply (wp_cp m ρ c 16 w2S01 s2bM rfl rfl ((Memref.set_view_squeeze _ _).trans (View.set_slice_whole _ _)) (View.set_whole _) (w2S01.view.read (Elt F) (w2 m c)) (View.write_whole_univ _ _ _) (pay_16 m ρ c)) $$ [HP16 HR16 HB01 Hs6]
  · isplitl [HP16]; · iexact HP16
    isplitl [HR16]; · iexact HR16
    isplitl [HB01]; · iexact HB01
    iexact Hs6
  iintro HW16
  iapply (wp_done c (⟨c, y2 c, y5 c, y8 c, Scalar.subi 1#32 (y5 c), barS, y28 c⟩) ?_)
  · rfl
  iapply Hk
  isplitl [HW13]; · iexact HW13
  isplitl [HW14]; · iexact HW14
  isplitl [HW15]; · iexact HW15
  iexact HW16

set_option maxHeartbeats 2000000 in

/-- The barrier: the device hands its landing buffers to its peer and gets the peer's; then it reads its assignments. -/
theorem part2_wp (c : Dev nD) {v8 v9 v28 : BitVec 32} {f1 f2} {Q : _ → sProp (MT nD τ sig Unit (Elt F) ℕ UU ℕ)} :
    iprop(levAts L lv ∗ PayR m ρ (peer c) 0 ∗ Wt m ρ c 0 ∗ owesE c (owed c S₀) ∗ ptR cc0_scratch1 c Finset.univ (f1) ∗ ptR cc0_scratch2 c Finset.univ (f2) ∗ ptR cc0_stg1_0 c Finset.univ (astg m ρ c))
      ⊢ iprop(((semVal (kcell (c, 0)) 0 ∗ owesE c (owed c D6) ∗ (∃ f, ptR cc0_scratch1 (peer c) Finset.univ f) ∗ (∃ f, ptR cc0_scratch2 (peer c) Finset.univ f) ∗ ptR cc0_stg1_0 c Finset.univ (astg m ρ c)) -∗ Q ⟨k0_pay2 (astg m ρ c), k0_pay3 (astg m ρ c), k0_pay4 (astg m ρ c), 320#32⟩) -∗ WP (F := F) c (k0_part2 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 c v8 v9 barS v28) Q) := by
  rw [k0_part2_eq_skeleton]
  unfold k0_part2_skel
  simp only [semSignalWord, semWaitWord, Prog.lift, Prog.bind_op, Prog.bind_ret, Prog.pure_eq_ret, wp_deviceId]
  iintro ⟨#Hlev, HP0, HW0, HO, Hx1, Hx2, Ha⟩ Hk
  iapply (wp_sg m ρ c (S := S₀) (S' := D6) (by decide) (by decide) (dev1_eq c)) $$ [HP0 Hx1 Hx2 HO]
  · isplitl [HP0]; · iexact HP0
    isplitl [Hx1 Hx2]
    · iapply (Entails.of_eq (pay_0' m ρ c).symm)
      isplitl [Hx1] <;> iexists _ <;> iassumption
    iexact HO
  iintro HO
  iapply (wp_wt m ρ c 0 D6 (by decide) rfl rfl (wpE_semWait_eq 𝒱₀ (c : Thread nD τ) none Set.univ)) $$ [HW0 HO]
  · isplitr; · iexact Hlev
    isplitl [HW0]; · iexact HW0
    iexact HO
  iintro ⟨HO, HZ0, Hp⟩
  ihave Hp := (Entails.of_eq (pay_0 m ρ c)) $$ Hp
  icases Hp with ⟨Hx1, Hx2⟩
  iapply (wp_ld c aM rFa (Finset.subset_univ _) _ (Memref.readAt_unit_zero (Elt F) cc0_stg1_0 (by funext a; fin_cases a <;> rfl) _ _)) $$ Ha
  iintro Ha
  iapply (wp_done c (⟨k0_pay2 (astg m ρ c), k0_pay3 (astg m ρ c), k0_pay4 (astg m ρ c), 320#32⟩) ?_)
  · rfl
  iapply Hk
  isplitl [HZ0]; · iexact HZ0
  isplitl [HO]; · iexact HO
  isplitl [Hx1]; · iexact Hx1
  isplitl [Hx2]; · iexact Hx2
  iexact Ha

set_option maxHeartbeats 2000000 in

/-- The token block is read and the dispatch matrices formed. -/
theorem part3_wp (c : Dev nD)  {Q : _ → sProp (MT nD τ sig Unit (Elt F) ℕ UU ℕ)} :
    iprop(ptR cc0_stg0_0 c Finset.univ (xstg m ρ c))
      ⊢ iprop(((ptR cc0_stg0_0 c Finset.univ (xstg m ρ c)) -∗ Q ⟨selS m ρ c, selL m ρ c, k0_pay9 (xstg m ρ c), k0_pay10 (y5 c) (k0_pay2 (F := F) (astg m ρ c)) (k0_pay3 (F := F) (astg m ρ c)) (k0_pay4 (F := F) (astg m ρ c)) 320#32 (xstg m ρ c)⟩) -∗ WP (F := F) c (k0_part3 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 (y5 c) (k0_pay2 (F := F) (astg m ρ c)) (k0_pay3 (F := F) (astg m ρ c)) (k0_pay4 (F := F) (astg m ρ c)) 320#32) Q) := by
  rw [k0_part3_eq_skeleton]
  unfold k0_part3_skel
  simp only [semSignalWord, semWaitWord, Prog.lift, Prog.bind_op, Prog.bind_ret, Prog.pure_eq_ret, wp_deviceId]
  iintro ⟨Hx⟩ Hk
  iapply (wp_ld c xM rFx (Finset.subset_univ _) _ (Memref.readAt_unit_zero (Elt F) cc0_stg0_0 (by funext a; fin_cases a <;> rfl) _ _)) $$ Hx
  iintro Hx
  iapply (wp_done c (⟨selS m ρ c, selL m ρ c, k0_pay9 (xstg m ρ c), k0_pay10 (y5 c) (k0_pay2 (F := F) (astg m ρ c)) (k0_pay3 (F := F) (astg m ρ c)) (k0_pay4 (F := F) (astg m ρ c)) 320#32 (xstg m ρ c)⟩) ?_)
  · rfl
  iapply Hk
  iexact Hx

set_option maxHeartbeats 2000000 in

/-- The dispatched tokens of the peer's experts are stored and both halves of them sent. -/
theorem part4_wp (c : Dev nD) {v2 v8 v9 : BitVec 32} {f0 f1} {Q : _ → sProp (MT nD τ sig Unit (Elt F) ℕ UU ℕ)} :
    iprop(PayR m ρ c 1 ∗ WaitR m ρ c 1 ∗ PayR m ρ (peer c) 7 ∗ PayR m ρ c 2 ∗ WaitR m ρ c 2 ∗ PayR m ρ (peer c) 8 ∗ owesE c (owed c D6) ∗ ptR cc0_scratch0 c Finset.univ (f0) ∗ ptR cc0_scratch1 (peer c) Finset.univ f1)
      ⊢ iprop(((Wt m ρ c 1 ∗ Wt m ρ c 2 ∗ owesE c (owed c D4)) -∗ Q (XL m ρ c)) -∗ WP (F := F) c (k0_part4 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 c v2 v8 v9 (selL m ρ c) (k0_pay9 (xstg m ρ c)) (k0_pay10 (y5 c) (k0_pay2 (F := F) (astg m ρ c)) (k0_pay3 (F := F) (astg m ρ c)) (k0_pay4 (F := F) (astg m ρ c)) 320#32 (xstg m ρ c))) Q) := by
  rw [k0_part4_eq_skeleton]
  unfold k0_part4_skel
  simp only [semSignalWord, semWaitWord, Prog.lift, Prog.bind_op, Prog.bind_ret, Prog.pure_eq_ret, wp_deviceId]
  iintro ⟨HP1, HR1, HP7, HP2, HR2, HP8, HO, Hxs, Hx1⟩ Hk
  iapply (wp_ld c xsM rFb (Finset.subset_univ _) _ (Memref.readAt_unit_zero (Elt F) cc0_scratch0 (by funext a; fin_cases a <;> rfl) _ _)) $$ Hxs
  iintro Hxs
  iapply (wp_st c xsM rFb (Finset.subset_univ _) (XS m ρ c) (fun i _ => congrFun (Memref.write_access_unit_zero_univ (Elt F) cc0_scratch0 (by funext a; fin_cases a <;> rfl) _ _ _) i)) $$ Hxs
  iintro Hxs
  icases (ptR_cut (F := F) (b := cc0_scratch0) c cutH (XS m ρ c)).1 $$ Hxs with ⟨Hxs0, Hxs1⟩
  icases (ptR_cut (F := F) (b := cc0_scratch1) (peer c) cutH f1).1 $$ Hx1 with ⟨Hx10, Hx11⟩
  iapply (wp_tx m ρ c 1 7 (S := D6) (S' := D5) (by decide) (by decide) (dev2_eq c) (xsM.slice rH0 (fun _ => rfl)) (xrM.slice rH0 (fun _ => rfl)) rfl rfl rfl rfl (View.set_slice_whole _ _) (View.set_slice_whole _ _) (XS m ρ c) (cp_xr rH0 _ _ _ _) rfl (pay_tx7 m ρ c)) $$ [HP1 HR1 HP7 Hxs0 Hx10 HO]
  · isplitl [HP1]; · iexact HP1
    isplitl [HR1]; · iexact HR1
    isplitl [HP7]; · iexact HP7
    isplitl [Hxs0]; · iexact Hxs0
    isplitl [Hx10]; · iexact Hx10
    iexact HO
  iintro ⟨HW1, HO⟩
  iapply (wp_tx m ρ c 2 8 (S := D5) (S' := D4) (by decide) (by decide) (dev3_eq c) (xsM.slice rH1 (fun _ => rfl)) (xrM.slice rH1 (fun _ => rfl)) rfl rfl rfl rfl (View.set_slice_whole _ _) (View.set_slice_whole _ _) (XS m ρ c) (cp_xr rH1 _ _ _ _) rfl (pay_tx8 m ρ c)) $$ [HP2 HR2 HP8 Hxs1 Hx11 HO]
  · isplitl [HP2]; · iexact HP2
    isplitl [HR2]; · iexact HR2
    isplitl [HP8]; · iexact HP8
    isplitl [Hxs1]; · iexact Hxs1
    isplitl [Hx11]; · iexact Hx11
    iexact HO
  iintro ⟨HW2, HO⟩
  iapply (wp_done c ((XL m ρ c)) ?_)
  · rfl
  iapply Hk
  isplitl [HW1]; · iexact HW1
  isplitl [HW2]; · iexact HW2
  iexact HO

set_option maxHeartbeats 2000000 in

/-- The first expert's first weights arrive and are rounded; the copies of the second expert's start. -/
theorem part5_wp (c : Dev nD) {f7} {Q : _ → sProp (MT nD τ sig Unit (Elt F) ℕ UU ℕ)} :
    iprop(levAts L lv ∗ owesE c (owed c D4) ∗ Wt m ρ c 13 ∗ Wt m ρ c 14 ∗ PayR m ρ c 17 ∗ WaitR m ρ c 17 ∗ PayR m ρ c 18 ∗ WaitR m ρ c 18 ∗ ptR main_arg2 c rA10.set (w1 m c) ∗ ptR main_arg2 c rA11.set (w1 m c) ∗ ptR cc0_scratch7 c rA00.set (f7) ∗ ptR cc0_scratch7 c rA01.set (f7))
      ⊢ iprop(((owesE c (owed c D4) ∗ semVal (kcell (c, 13)) 0 ∗ semVal (kcell (c, 14)) 0 ∗ Wt m ρ c 17 ∗ Wt m ρ c 18 ∗ ptR main_arg2 c rA00.set (w1 m c) ∗ ptR main_arg2 c rA01.set (w1 m c) ∗ ptR cc0_scratch7 c rA0.set (T1 m c)) -∗ Q ⟨⟩) -∗ WP (F := F) c (k0_part5 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 ) Q) := by
  rw [k0_part5_eq_skeleton]
  unfold k0_part5_skel
  simp only [semSignalWord, semWaitWord, Prog.lift, Prog.bind_op, Prog.bind_ret, Prog.pure_eq_ret, wp_deviceId]
  iintro ⟨#Hlev, HO, HW13, HW14, HP17, HR17, HP18, HR18, HA10, HA11, Hb00, Hb01⟩ Hk
  iapply (wp_wd m ρ c 13 D4 (by decide) s1aM rfl rfl) $$ [HW13 HO]
  · isplitr; · iexact Hlev
    isplitl [HW13]; · iexact HW13
    iexact HO
  iintro ⟨HO, HZ13, Hp⟩
  ihave Hp := (Entails.of_eq (pay_13 m ρ c)) $$ Hp
  icases Hp with ⟨Hs3, HA00⟩
  iapply (wp_ld c s1aM rFs (Finset.subset_univ _) _ (Memref.readAt_unit_zero (Elt F) cc0_scratch3 (by funext a; fin_cases a <;> rfl) _ _)) $$ Hs3
  iintro Hs3
  iapply (wp_ld c w1bM rA00 (le_of_eq (View.set_slice_whole _ _)) (f := _) _ rfl) $$ Hb00
  iintro Hb00
  iapply (wp_st c w1bM rA00 (le_of_eq (View.set_slice_whole _ _)) (T1 m c) (st_agr cc0_scratch7 rA00 _ (T1 m c) _ (p13 m c))) $$ Hb00
  iintro Hb00
  iapply (wp_cp m ρ c 17 w1S10 s1aM rfl rfl ((Memref.set_view_squeeze _ _).trans (View.set_slice_whole _ _)) (View.set_whole _) (w1S10.view.read (Elt F) (w1 m c)) (View.write_whole_univ _ _ _) (pay_17 m ρ c)) $$ [HP17 HR17 HA10 Hs3]
  · isplitl [HP17]; · iexact HP17
    isplitl [HR17]; · iexact HR17
    isplitl [HA10]; · iexact HA10
    iexact Hs3
  iintro HW17
  iapply (wp_wd m ρ c 14 D4 (by decide) s1bM rfl rfl) $$ [HW14 HO]
  · isplitr; · iexact Hlev
    isplitl [HW14]; · iexact HW14
    iexact HO
  iintro ⟨HO, HZ14, Hp⟩
  ihave Hp := (Entails.of_eq (pay_14 m ρ c)) $$ Hp
  icases Hp with ⟨Hs4, HA01⟩
  iapply (wp_ld c s1bM rFs (Finset.subset_univ _) _ (Memref.readAt_unit_zero (Elt F) cc0_scratch4 (by funext a; fin_cases a <;> rfl) _ _)) $$ Hs4
  iintro Hs4
  iapply (wp_ld c w1bM rA01 (le_of_eq (View.set_slice_whole _ _)) (f := _) _ rfl) $$ Hb01
  iintro Hb01
  iapply (wp_st c w1bM rA01 (le_of_eq (View.set_slice_whole _ _)) (T1 m c) (st_agr cc0_scratch7 rA01 _ (T1 m c) _ (p14 m c))) $$ Hb01
  iintro Hb01
  iapply (wp_cp m ρ c 18 w1S11 s1bM rfl rfl ((Memref.set_view_squeeze _ _).trans (View.set_slice_whole _ _)) (View.set_whole _) (w1S11.view.read (Elt F) (w1 m c)) (View.write_whole_univ _ _ _) (pay_18 m ρ c)) $$ [HP18 HR18 HA11 Hs4]
  · isplitl [HP18]; · iexact HP18
    isplitl [HR18]; · iexact HR18
    isplitl [HA11]; · iexact HA11
    iexact Hs4
  iintro HW18
  ihave Hb0 := (ptR_cut (F := F) (b := cc0_scratch7) c cutA0 (T1 m c)).2 $$ [Hb00 Hb01]
  · isplitl [Hb00] <;> iassumption
  iapply (wp_done c (⟨⟩) ?_)
  · rfl
  iapply Hk
  isplitl [HO]; · iexact HO
  isplitl [HZ13]; · iexact HZ13
  isplitl [HZ14]; · iexact HZ14
  isplitl [HW17]; · iexact HW17
  isplitl [HW18]; · iexact HW18
  isplitl [HA00]; · iexact HA00
  isplitl [HA01]; · iexact HA01
  iexact Hb0

set_option maxHeartbeats 2000000 in

/-- The first expert's second weights arrive and are rounded; the copies of the second expert's start; the local tokens of the first expert meet its first weights. -/
theorem part6_wp (c : Dev nD) {f8} {Q : _ → sProp (MT nD τ sig Unit (Elt F) ℕ UU ℕ)} :
    iprop(levAts L lv ∗ owesE c (owed c D4) ∗ Wt m ρ c 15 ∗ Wt m ρ c 16 ∗ PayR m ρ c 19 ∗ WaitR m ρ c 19 ∗ PayR m ρ c 20 ∗ WaitR m ρ c 20 ∗ ptR main_arg3 c rB10.set (w2 m c) ∗ ptR main_arg3 c rB11.set (w2 m c) ∗ ptR cc0_scratch8 c rB00.set (f8) ∗ ptR cc0_scratch8 c rB01.set (f8) ∗ ptR cc0_scratch7 c rA0.set (T1 m c))
      ⊢ iprop(((owesE c (owed c D4) ∗ semVal (kcell (c, 15)) 0 ∗ semVal (kcell (c, 16)) 0 ∗ Wt m ρ c 19 ∗ Wt m ρ c 20 ∗ ptR main_arg3 c rB00.set (w2 m c) ∗ ptR main_arg3 c rB01.set (w2 m c) ∗ ptR cc0_scratch7 c rA0.set (T1 m c) ∗ ptR cc0_scratch8 c rB0.set (T2 m c)) -∗ Q (k0_pay17 (XL m ρ c) (W10 m c))) -∗ WP (F := F) c (k0_part6 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 (XL m ρ c)) Q) := by
  rw [k0_part6_eq_skeleton]
  unfold k0_part6_skel
  simp only [semSignalWord, semWaitWord, Prog.lift, Prog.bind_op, Prog.bind_ret, Prog.pure_eq_ret, wp_deviceId]
  iintro ⟨#Hlev, HO, HW15, HW16, HP19, HR19, HP20, HR20, HB10, HB11, Hc00, Hc01, Hb0⟩ Hk
  iapply (wp_wd m ρ c 15 D4 (by decide) s2aM rfl rfl) $$ [HW15 HO]
  · isplitr; · iexact Hlev
    isplitl [HW15]; · iexact HW15
    iexact HO
  iintro ⟨HO, HZ15, Hp⟩
  ihave Hp := (Entails.of_eq (pay_15 m ρ c)) $$ Hp
  icases Hp with ⟨Hs5, HB00⟩
  iapply (wp_ld c s2aM rFx (Finset.subset_univ _) _ (Memref.readAt_unit_zero (Elt F) cc0_scratch5 (by funext a; fin_cases a <;> rfl) _ _)) $$ Hs5
  iintro Hs5
  iapply (wp_ld c w2bM rB00 (le_of_eq (View.set_slice_whole _ _)) (f := _) _ rfl) $$ Hc00
  iintro Hc00
  iapply (wp_st c w2bM rB00 (le_of_eq (View.set_slice_whole _ _)) (T2 m c) (st_agr cc0_scratch8 rB00 _ (T2 m c) _ (p15 m c))) $$ Hc00
  iintro Hc00
  iapply (wp_cp m ρ c 19 w2S10 s2aM rfl rfl ((Memref.set_view_squeeze _ _).trans (View.set_slice_whole _ _)) (View.set_whole _) (w2S10.view.read (Elt F) (w2 m c)) (View.write_whole_univ _ _ _) (pay_19 m ρ c)) $$ [HP19 HR19 HB10 Hs5]
  · isplitl [HP19]; · iexact HP19
    isplitl [HR19]; · iexact HR19
    isplitl [HB10]; · iexact HB10
    iexact Hs5
  iintro HW19
  iapply (wp_wd m ρ c 16 D4 (by decide) s2bM rfl rfl) $$ [HW16 HO]
  · isplitr; · iexact Hlev
    isplitl [HW16]; · iexact HW16
    iexact HO
  iintro ⟨HO, HZ16, Hp⟩
  ihave Hp := (Entails.of_eq (pay_16 m ρ c)) $$ Hp
  icases Hp with ⟨Hs6, HB01⟩
  iapply (wp_ld c s2bM rFx (Finset.subset_univ _) _ (Memref.readAt_unit_zero (Elt F) cc0_scratch6 (by funext a; fin_cases a <;> rfl) _ _)) $$ Hs6
  iintro Hs6
  iapply (wp_ld c w2bM rB01 (le_of_eq (View.set_slice_whole _ _)) (f := _) _ rfl) $$ Hc01
  iintro Hc01
  iapply (wp_st c w2bM rB01 (le_of_eq (View.set_slice_whole _ _)) (T2 m c) (st_agr cc0_scratch8 rB01 _ (T2 m c) _ (p16 m c))) $$ Hc01
  iintro Hc01
  iapply (wp_cp m ρ c 20 w2S11 s2bM rfl rfl ((Memref.set_view_squeeze _ _).trans (View.set_slice_whole _ _)) (View.set_whole _) (w2S11.view.read (Elt F) (w2 m c)) (View.write_whole_univ _ _ _) (pay_20 m ρ c)) $$ [HP20 HR20 HB11 Hs6]
  · isplitl [HP20]; · iexact HP20
    isplitl [HR20]; · iexact HR20
    isplitl [HB11]; · iexact HB11
    iexact Hs6
  iintro HW20
  ihave Hc0 := (ptR_cut (F := F) (b := cc0_scratch8) c cutB0 (T2 m c)).2 $$ [Hc00 Hc01]
  · isplitl [Hc00] <;> iassumption
  iapply (wp_ld c w1bM rA0 (le_of_eq (View.set_slice_whole _ _)) (f := T1 m c) (W10 m c) rfl) $$ Hb0
  iintro Hb0
  iapply (wp_done c ((k0_pay17 (XL m ρ c) (W10 m c))) ?_)
  · rfl
  iapply Hk
  isplitl [HO]; · iexact HO
  isplitl [HZ15]; · iexact HZ15
  isplitl [HZ16]; · iexact HZ16
  isplitl [HW19]; · iexact HW19
  isplitl [HW20]; · iexact HW20
  isplitl [HB00]; · iexact HB00
  isplitl [HB01]; · iexact HB01
  isplitl [Hb0]; · iexact Hb0
  iexact Hc0

set_option maxHeartbeats 2000000 in

/-- The first half of the dispatched tokens has been sent and the peer's first half has arrived. -/
theorem part7_wp (c : Dev nD) {v2 v8 v9 : BitVec 32} {Q : _ → sProp (MT nD τ sig Unit (Elt F) ℕ UU ℕ)} :
    iprop(levAts L lv ∗ owesE c (owed c D4) ∗ Wt m ρ c 1 ∗ Wt m ρ c 7 ∗ ptR cc0_scratch7 c rA0.set (T1 m c) ∗ ptR cc0_scratch8 c rB0.set (T2 m c))
      ⊢ iprop(((owesE c (owed c D4) ∗ semVal (kcell (c, 1)) 0 ∗ semVal (kcell (c, 7)) 0 ∗ ptR cc0_scratch0 c rH0.set (XS m ρ c) ∗ ptR cc0_scratch1 c rQ0.set (XS m ρ (peer c)) ∗ ptR cc0_scratch1 c rQ1.set (XS m ρ (peer c)) ∗ ptR cc0_scratch7 c rA0.set (T1 m c) ∗ ptR cc0_scratch8 c rB0.set (T2 m c)) -∗ Q ⟨k0_pay18 (k0_pay17 (XL m ρ c) (W10 m c)) (W20 m c), k0_pay19 (XQ m ρ c 0 inb_S640x1024_S160x1024_0_0) (W10 m c)⟩) -∗ WP (F := F) c (k0_part7 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 v2 v8 v9 (k0_pay17 (XL m ρ c) (W10 m c))) Q) := by
  rw [k0_part7_eq_skeleton]
  unfold k0_part7_skel
  simp only [semSignalWord, semWaitWord, Prog.lift, Prog.bind_op, Prog.bind_ret, Prog.pure_eq_ret, wp_deviceId]
  iintro ⟨#Hlev, HO, HW1, HW7, Hb0, Hc0⟩ Hk
  iapply (wp_ld c w2bM rB0 (le_of_eq (View.set_slice_whole _ _)) (f := T2 m c) (W20 m c) rfl) $$ Hc0
  iintro Hc0
  iapply (wp_wd m ρ c 1 D4 (by decide) (xsM.slice rH0 (fun _ => rfl)) rfl rfl) $$ [HW1 HO]
  · isplitr; · iexact Hlev
    isplitl [HW1]; · iexact HW1
    iexact HO
  iintro ⟨HO, HZ1, Hp⟩
  ihave Hp := (Entails.of_eq (pay_1 m ρ c)) $$ Hp
  icases Hp with Hxs0
  iapply (wp_wd m ρ c 7 D4 (by decide) (xrM.slice rH0 (fun _ => rfl)) rfl rfl) $$ [HW7 HO]
  · isplitr; · iexact Hlev
    isplitl [HW7]; · iexact HW7
    iexact HO
  iintro ⟨HO, HZ7, Hp⟩
  ihave Hp := (Entails.of_eq (pay_7 m ρ c)) $$ Hp
  icases Hp with Hxr0
  icases (ptR_cut (F := F) (b := cc0_scratch1) c cutQ0 (XS m ρ (peer c))).1 $$ Hxr0 with ⟨Hq0, Hq1⟩
  iapply (wp_ld c xrM rQ0 (le_of_eq (View.set_slice_whole _ _)) (f := XS m ρ (peer c)) (XQ m ρ c 0 inb_S640x1024_S160x1024_0_0) rfl) $$ Hq0
  iintro Hq0
  iapply (wp_ld c w1bM rA0 (le_of_eq (View.set_slice_whole _ _)) (f := T1 m c) (W10 m c) rfl) $$ Hb0
  iintro Hb0
  iapply (wp_done c (⟨k0_pay18 (k0_pay17 (XL m ρ c) (W10 m c)) (W20 m c), k0_pay19 (XQ m ρ c 0 inb_S640x1024_S160x1024_0_0) (W10 m c)⟩) ?_)
  · rfl
  iapply Hk
  isplitl [HO]; · iexact HO
  isplitl [HZ1]; · iexact HZ1
  isplitl [HZ7]; · iexact HZ7
  isplitl [Hxs0]; · iexact Hxs0
  isplitl [Hq0]; · iexact Hq0
  isplitl [Hq1]; · iexact Hq1
  isplitl [Hb0]; · iexact Hb0
  iexact Hc0

end Cert.KernelIdeal.Moe

end
-- ==== Proof.PartsB.lean ====
/-
The later parts of the kernel's body.
-/
module

public import proofs.«01_k».proof.Proof.PartsA

@[expose] public section

noncomputable section

namespace Cert.KernelIdeal.Moe

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The parts -/

set_option maxHeartbeats 2000000 in

/-- The first returned quarter is stored and sent back; the second is computed. -/
theorem part8_wp (c : Dev nD) {v2 v8 v9 : BitVec 32} {f2} {Q : _ → sProp (MT nD τ sig Unit (Elt F) ℕ UU ℕ)} :
    iprop(PayR m ρ c 3 ∗ WaitR m ρ c 3 ∗ PayR m ρ (peer c) 9 ∗ owesE c (owed c D4) ∗ ptR cc0_scratch1 c rQ0.set (XS m ρ (peer c)) ∗ ptR cc0_scratch1 c rQ1.set (XS m ρ (peer c)) ∗ ptR cc0_scratch2 (peer c) rQ0.set f2 ∗ ptR cc0_scratch7 c rA0.set (T1 m c) ∗ ptR cc0_scratch8 c rB0.set (T2 m c))
      ⊢ iprop(((Wt m ρ c 3 ∗ owesE c (owed c D3) ∗ ptR cc0_scratch1 c rQ1.set (XS m ρ (peer c)) ∗ ptR cc0_scratch7 c rA0.set (T1 m c) ∗ ptR cc0_scratch8 c rB0.set (T2 m c)) -∗ Q (k0_pay21 (XQ m ρ c 160 inb_S640x1024_S160x1024_160_0) (W10 m c) (W20 m c))) -∗ WP (F := F) c (k0_part8 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 c v2 v8 v9 (k0_pay19 (XQ m ρ c 0 inb_S640x1024_S160x1024_0_0) (W10 m c))) Q) := by
  rw [k0_part8_eq_skeleton]
  unfold k0_part8_skel
  simp only [semSignalWord, semWaitWord, Prog.lift, Prog.bind_op, Prog.bind_ret, Prog.pure_eq_ret, wp_deviceId]
  iintro ⟨HP3, HR3, HP9, HO, Hq0, Hq1, Hr0, Hb0, Hc0⟩ Hk
  iapply (wp_ld c w2bM rB0 (le_of_eq (View.set_slice_whole _ _)) (f := T2 m c) (W20 m c) rfl) $$ Hc0
  iintro Hc0
  iapply (wp_ld c xrM rQ0 (le_of_eq (View.set_slice_whole _ _)) (f := _) _ rfl) $$ Hq0
  iintro Hq0
  iapply (wp_st c xrM rQ0 (le_of_eq (View.set_slice_whole _ _)) (RO m ρ c) (st_agr cc0_scratch1 rQ0 _ (RO m ρ c) _ (ro0 m ρ c))) $$ Hq0
  iintro Hq0
  iapply (wp_tx m ρ c 3 9 (S := D4) (S' := D3) (by decide) (by decide) (dev4_eq c) (xrM.slice rQ0 (fun _ => rfl)) (reM.slice rQ0 (fun _ => rfl)) rfl rfl rfl rfl (View.set_slice_whole _ _) (View.set_slice_whole _ _) (RO m ρ c) (cp_re rQ0 _ _ _ _) rfl (pay_tx9 m ρ c)) $$ [HP3 HR3 HP9 Hq0 Hr0 HO]
  · isplitl [HP3]; · iexact HP3
    isplitl [HR3]; · iexact HR3
    isplitl [HP9]; · iexact HP9
    isplitl [Hq0]; · iexact Hq0
    isplitl [Hr0]; · iexact Hr0
    iexact HO
  iintro ⟨HW3, HO⟩
  iapply (wp_ld c xrM rQ1 (le_of_eq (View.set_slice_whole _ _)) (f := XS m ρ (peer c)) (XQ m ρ c 160 inb_S640x1024_S160x1024_160_0) rfl) $$ Hq1
  iintro Hq1
  iapply (wp_ld c w1bM rA0 (le_of_eq (View.set_slice_whole _ _)) (f := T1 m c) (W10 m c) rfl) $$ Hb0
  iintro Hb0
  iapply (wp_ld c w2bM rB0 (le_of_eq (View.set_slice_whole _ _)) (f := T2 m c) (W20 m c) rfl) $$ Hc0
  iintro Hc0
  iapply (wp_done c ((k0_pay21 (XQ m ρ c 160 inb_S640x1024_S160x1024_160_0) (W10 m c) (W20 m c))) ?_)
  · rfl
  iapply Hk
  isplitl [HW3]; · iexact HW3
  isplitl [HO]; · iexact HO
  isplitl [Hq1]; · iexact Hq1
  isplitl [Hb0]; · iexact Hb0
  iexact Hc0

set_option maxHeartbeats 2000000 in

/-- The second returned quarter is stored and sent back; the second expert's first weights arrive. -/
theorem part9_wp (c : Dev nD) {v2 v8 v9 : BitVec 32} {f2 f7} {Q : _ → sProp (MT nD τ sig Unit (Elt F) ℕ UU ℕ)} :
    iprop(levAts L lv ∗ PayR m ρ c 4 ∗ WaitR m ρ c 4 ∗ PayR m ρ (peer c) 10 ∗ owesE c (owed c D3) ∗ ptR cc0_scratch1 c rQ1.set (XS m ρ (peer c)) ∗ ptR cc0_scratch2 (peer c) rQ1.set f2 ∗ Wt m ρ c 17 ∗ Wt m ρ c 18 ∗ ptR cc0_scratch7 c rA10.set (f7))
      ⊢ iprop(((Wt m ρ c 4 ∗ owesE c (owed c D2) ∗ semVal (kcell (c, 17)) 0 ∗ semVal (kcell (c, 18)) 0 ∗ (∃ f, ptR cc0_scratch3 c Finset.univ f) ∗ (∃ f, ptR cc0_scratch4 c Finset.univ f) ∗ ptR main_arg2 c rA10.set (w1 m c) ∗ ptR main_arg2 c rA11.set (w1 m c) ∗ ptR cc0_scratch7 c rA10.set (T1 m c)) -∗ Q (k0_pay24 (w1S11.view.read (Elt F) (w1 m c)))) -∗ WP (F := F) c (k0_part9 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 c v2 v8 v9 (k0_pay21 (XQ m ρ c 160 inb_S640x1024_S160x1024_160_0) (W10 m c) (W20 m c))) Q) := by
  rw [k0_part9_eq_skeleton]
  unfold k0_part9_skel
  simp only [semSignalWord, semWaitWord, Prog.lift, Prog.bind_op, Prog.bind_ret, Prog.pure_eq_ret, wp_deviceId]
  iintro ⟨#Hlev, HP4, HR4, HP10, HO, Hq1, Hr1, HW17, HW18, Hb10⟩ Hk
  iapply (wp_ld c xrM rQ1 (le_of_eq (View.set_slice_whole _ _)) (f := _) _ rfl) $$ Hq1
  iintro Hq1
  iapply (wp_st c xrM rQ1 (le_of_eq (View.set_slice_whole _ _)) (RO m ρ c) (st_agr cc0_scratch1 rQ1 _ (RO m ρ c) _ (ro1 m ρ c))) $$ Hq1
  iintro Hq1
  iapply (wp_tx m ρ c 4 10 (S := D3) (S' := D2) (by decide) (by decide) (dev5_eq c) (xrM.slice rQ1 (fun _ => rfl)) (reM.slice rQ1 (fun _ => rfl)) rfl rfl rfl rfl (View.set_slice_whole _ _) (View.set_slice_whole _ _) (RO m ρ c) (cp_re rQ1 _ _ _ _) rfl (pay_tx10 m ρ c)) $$ [HP4 HR4 HP10 Hq1 Hr1 HO]
  · isplitl [HP4]; · iexact HP4
    isplitl [HR4]; · iexact HR4
    isplitl [HP10]; · iexact HP10
    isplitl [Hq1]; · iexact Hq1
    isplitl [Hr1]; · iexact Hr1
    iexact HO
  iintro ⟨HW4, HO⟩
  iapply (wp_wd m ρ c 17 D2 (by decide) s1aM rfl rfl) $$ [HW17 HO]
  · isplitr; · iexact Hlev
    isplitl [HW17]; · iexact HW17
    iexact HO
  iintro ⟨HO, HZ17, Hp⟩
  ihave Hp := (Entails.of_eq (pay_17 m ρ c)) $$ Hp
  icases Hp with ⟨Hs3, HA10⟩
  iapply (wp_ld c s1aM rFs (Finset.subset_univ _) _ (Memref.readAt_unit_zero (Elt F) cc0_scratch3 (by funext a; fin_cases a <;> rfl) _ _)) $$ Hs3
  iintro Hs3
  iapply (wp_ld c w1bM rA10 (le_of_eq (View.set_slice_whole _ _)) (f := _) _ rfl) $$ Hb10
  iintro Hb10
  iapply (wp_st c w1bM rA10 (le_of_eq (View.set_slice_whole _ _)) (T1 m c) (st_agr cc0_scratch7 rA10 _ (T1 m c) _ (p23 m c))) $$ Hb10
  iintro Hb10
  iapply (wp_wd m ρ c 18 D2 (by decide) s1bM rfl rfl) $$ [HW18 HO]
  · isplitr; · iexact Hlev
    isplitl [HW18]; · iexact HW18
    iexact HO
  iintro ⟨HO, HZ18, Hp⟩
  ihave Hp := (Entails.of_eq (pay_18 m ρ c)) $$ Hp
  icases Hp with ⟨Hs4, HA11⟩
  iapply (wp_ld c s1bM rFs (Finset.subset_univ _) _ (Memref.readAt_unit_zero (Elt F) cc0_scratch4 (by funext a; fin_cases a <;> rfl) _ _)) $$ Hs4
  iintro Hs4
  iapply (wp_done c ((k0_pay24 (w1S11.view.read (Elt F) (w1 m c)))) ?_)
  · rfl
  iapply Hk
  isplitl [HW4]; · iexact HW4
  isplitl [HO]; · iexact HO
  isplitl [HZ17]; · iexact HZ17
  isplitl [HZ18]; · iexact HZ18
  isplitl [Hs3]; · iexists _; iexact Hs3
  isplitl [Hs4]; · iexists _; iexact Hs4
  isplitl [HA10]; · iexact HA10
  isplitl [HA11]; · iexact HA11
  iexact Hb10

set_option maxHeartbeats 2000000 in

/-- The second expert's weights are all in place; the local tokens of the second expert meet its first weights. -/
theorem part10_wp (c : Dev nD) {f7 f8} {Q : _ → sProp (MT nD τ sig Unit (Elt F) ℕ UU ℕ)} :
    iprop(levAts L lv ∗ owesE c (owed c D2) ∗ Wt m ρ c 19 ∗ Wt m ρ c 20 ∗ ptR cc0_scratch7 c rA10.set (T1 m c) ∗ ptR cc0_scratch7 c rA11.set (f7) ∗ ptR cc0_scratch8 c rB10.set (f8) ∗ ptR cc0_scratch8 c rB11.set (f8))
      ⊢ iprop(((owesE c (owed c D2) ∗ semVal (kcell (c, 19)) 0 ∗ semVal (kcell (c, 20)) 0 ∗ (∃ f, ptR cc0_scratch5 c Finset.univ f) ∗ (∃ f, ptR cc0_scratch6 c Finset.univ f) ∗ ptR main_arg3 c rB10.set (w2 m c) ∗ ptR main_arg3 c rB11.set (w2 m c) ∗ ptR cc0_scratch7 c rA1.set (T1 m c) ∗ ptR cc0_scratch8 c rB1.set (T2 m c)) -∗ Q (k0_pay28 (XL m ρ c) (W11 m c))) -∗ WP (F := F) c (k0_part10 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 (XL m ρ c) (k0_pay24 (w1S11.view.read (Elt F) (w1 m c)))) Q) := by
  rw [k0_part10_eq_skeleton]
  unfold k0_part10_skel
  simp only [semSignalWord, semWaitWord, Prog.lift, Prog.bind_op, Prog.bind_ret, Prog.pure_eq_ret, wp_deviceId]
  iintro ⟨#Hlev, HO, HW19, HW20, Hb10, Hb11, Hc10, Hc11⟩ Hk
  iapply (wp_ld c w1bM rA11 (le_of_eq (View.set_slice_whole _ _)) (f := _) _ rfl) $$ Hb11
  iintro Hb11
  iapply (wp_st c w1bM rA11 (le_of_eq (View.set_slice_whole _ _)) (T1 m c) (st_agr cc0_scratch7 rA11 _ (T1 m c) _ (p25 m c))) $$ Hb11
  iintro Hb11
  iapply (wp_wd m ρ c 19 D2 (by decide) s2aM rfl rfl) $$ [HW19 HO]
  · isplitr; · iexact Hlev
    isplitl [HW19]; · iexact HW19
    iexact HO
  iintro ⟨HO, HZ19, Hp⟩
  ihave Hp := (Entails.of_eq (pay_19 m ρ c)) $$ Hp
  icases Hp with ⟨Hs5, HB10⟩
  iapply (wp_ld c s2aM rFx (Finset.subset_univ _) _ (Memref.readAt_unit_zero (Elt F) cc0_scratch5 (by funext a; fin_cases a <;> rfl) _ _)) $$ Hs5
  iintro Hs5
  iapply (wp_ld c w2bM rB10 (le_of_eq (View.set_slice_whole _ _)) (f := _) _ rfl) $$ Hc10
  iintro Hc10
  iapply (wp_st c w2bM rB10 (le_of_eq (View.set_slice_whole _ _)) (T2 m c) (st_agr cc0_scratch8 rB10 _ (T2 m c) _ (p26 m c))) $$ Hc10
  iintro Hc10
  iapply (wp_wd m ρ c 20 D2 (by decide) s2bM rfl rfl) $$ [HW20 HO]
  · isplitr; · iexact Hlev
    isplitl [HW20]; · iexact HW20
    iexact HO
  iintro ⟨HO, HZ20, Hp⟩
  ihave Hp := (Entails.of_eq (pay_20 m ρ c)) $$ Hp
  icases Hp with ⟨Hs6, HB11⟩
  iapply (wp_ld c s2bM rFx (Finset.subset_univ _) _ (Memref.readAt_unit_zero (Elt F) cc0_scratch6 (by funext a; fin_cases a <;> rfl) _ _)) $$ Hs6
  iintro Hs6
  iapply (wp_ld c w2bM rB11 (le_of_eq (View.set_slice_whole _ _)) (f := _) _ rfl) $$ Hc11
  iintro Hc11
  iapply (wp_st c w2bM rB11 (le_of_eq (View.set_slice_whole _ _)) (T2 m c) (st_agr cc0_scratch8 rB11 _ (T2 m c) _ (p27 m c))) $$ Hc11
  iintro Hc11
  ihave Hb1 := (ptR_cut (F := F) (b := cc0_scratch7) c cutA1 (T1 m c)).2 $$ [Hb10 Hb11]
  · isplitl [Hb10] <;> iassumption
  ihave Hc1 := (ptR_cut (F := F) (b := cc0_scratch8) c cutB1 (T2 m c)).2 $$ [Hc10 Hc11]
  · isplitl [Hc10] <;> iassumption
  iapply (wp_ld c w1bM rA1 (le_of_eq (View.set_slice_whole _ _)) (f := T1 m c) (W11 m c) rfl) $$ Hb1
  iintro Hb1
  iapply (wp_done c ((k0_pay28 (XL m ρ c) (W11 m c))) ?_)
  · rfl
  iapply Hk
  isplitl [HO]; · iexact HO
  isplitl [HZ19]; · iexact HZ19
  isplitl [HZ20]; · iexact HZ20
  isplitl [Hs5]; · iexists _; iexact Hs5
  isplitl [Hs6]; · iexists _; iexact Hs6
  isplitl [HB10]; · iexact HB10
  isplitl [HB11]; · iexact HB11
  isplitl [Hb1]; · iexact Hb1
  iexact Hc1

set_option maxHeartbeats 2000000 in

/-- The local part of the output is stored; the peer's second half has arrived. -/
theorem part11_wp (c : Dev nD) {v2 v8 v9 : BitVec 32} {fo} {Q : _ → sProp (MT nD τ sig Unit (Elt F) ℕ UU ℕ)} :
    iprop(levAts L lv ∗ owesE c (owed c D2) ∗ Wt m ρ c 2 ∗ Wt m ρ c 8 ∗ ptR cc0_stg2_0 c Finset.univ (fo) ∗ ptR cc0_scratch7 c rA1.set (T1 m c) ∗ ptR cc0_scratch8 c rB1.set (T2 m c))
      ⊢ iprop(((owesE c (owed c D2) ∗ semVal (kcell (c, 2)) 0 ∗ semVal (kcell (c, 8)) 0 ∗ ptR cc0_stg2_0 c Finset.univ (O1 m ρ c) ∗ ptR cc0_scratch0 c rH1.set (XS m ρ c) ∗ ptR cc0_scratch1 c rQ2.set (XS m ρ (peer c)) ∗ ptR cc0_scratch1 c rQ3.set (XS m ρ (peer c)) ∗ ptR cc0_scratch7 c rA1.set (T1 m c) ∗ ptR cc0_scratch8 c rB1.set (T2 m c)) -∗ Q ⟨XQ m ρ c 320 inb_S640x1024_S160x1024_320_0, k0_pay30 (W11 m c), constant S160x2048 .f32 0x00000000#32⟩) -∗ WP (F := F) c (k0_part11 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 v2 v8 v9 (selL m ρ c) (k0_pay18 (k0_pay17 (XL m ρ c) (W10 m c)) (W20 m c)) (k0_pay28 (XL m ρ c) (W11 m c))) Q) := by
  rw [k0_part11_eq_skeleton]
  unfold k0_part11_skel
  simp only [semSignalWord, semWaitWord, Prog.lift, Prog.bind_op, Prog.bind_ret, Prog.pure_eq_ret, wp_deviceId]
  iintro ⟨#Hlev, HO, HW2, HW8, Ho, Hb1, Hc1⟩ Hk
  iapply (wp_ld c w2bM rB1 (le_of_eq (View.set_slice_whole _ _)) (f := T2 m c) (W21 m c) rfl) $$ Hc1
  iintro Hc1
  iapply (wp_ld c oM rFx (Finset.subset_univ _) _ (Memref.readAt_unit_zero (Elt F) cc0_stg2_0 (by funext a; fin_cases a <;> rfl) _ _)) $$ Ho
  iintro Ho
  iapply (wp_st c oM rFx (Finset.subset_univ _) (O1 m ρ c) (fun i _ => congrFun (Memref.write_access_unit_zero_univ (Elt F) cc0_stg2_0 (by funext a; fin_cases a <;> rfl) _ _ _) i)) $$ Ho
  iintro Ho
  iapply (wp_wd m ρ c 2 D2 (by decide) (xsM.slice rH1 (fun _ => rfl)) rfl rfl) $$ [HW2 HO]
  · isplitr; · iexact Hlev
    isplitl [HW2]; · iexact HW2
    iexact HO
  iintro ⟨HO, HZ2, Hp⟩
  ihave Hp := (Entails.of_eq (pay_2 m ρ c)) $$ Hp
  icases Hp with Hxs1
  iapply (wp_wd m ρ c 8 D2 (by decide) (xrM.slice rH1 (fun _ => rfl)) rfl rfl) $$ [HW8 HO]
  · isplitr; · iexact Hlev
    isplitl [HW8]; · iexact HW8
    iexact HO
  iintro ⟨HO, HZ8, Hp⟩
  ihave Hp := (Entails.of_eq (pay_8 m ρ c)) $$ Hp
  icases Hp with Hxr1
  icases (ptR_cut (F := F) (b := cc0_scratch1) c cutQ1 (XS m ρ (peer c))).1 $$ Hxr1 with ⟨Hq2, Hq3⟩
  iapply (wp_ld c xrM rQ2 (le_of_eq (View.set_slice_whole _ _)) (f := XS m ρ (peer c)) (XQ m ρ c 320 inb_S640x1024_S160x1024_320_0) rfl) $$ Hq2
  iintro Hq2
  iapply (wp_ld c w1bM rA1 (le_of_eq (View.set_slice_whole _ _)) (f := T1 m c) (W11 m c) rfl) $$ Hb1
  iintro Hb1
  iapply (wp_done c (⟨XQ m ρ c 320 inb_S640x1024_S160x1024_320_0, k0_pay30 (W11 m c), constant S160x2048 .f32 0x00000000#32⟩) ?_)
  · rfl
  iapply Hk
  isplitl [HO]; · iexact HO
  isplitl [HZ2]; · iexact HZ2
  isplitl [HZ8]; · iexact HZ8
  isplitl [Ho]; · iexact Ho
  isplitl [Hxs1]; · iexact Hxs1
  isplitl [Hq2]; · iexact Hq2
  isplitl [Hq3]; · iexact Hq3
  isplitl [Hb1]; · iexact Hb1
  iexact Hc1

set_option maxHeartbeats 2000000 in

/-- The third returned quarter is stored and sent back. -/
theorem part12_wp (c : Dev nD) {v2 v8 v9 : BitVec 32} {f2} {Q : _ → sProp (MT nD τ sig Unit (Elt F) ℕ UU ℕ)} :
    iprop(PayR m ρ c 5 ∗ WaitR m ρ c 5 ∗ PayR m ρ (peer c) 11 ∗ owesE c (owed c D2) ∗ ptR cc0_scratch1 c rQ2.set (XS m ρ (peer c)) ∗ ptR cc0_scratch1 c rQ3.set (XS m ρ (peer c)) ∗ ptR cc0_scratch2 (peer c) rQ2.set f2 ∗ ptR cc0_scratch7 c rA1.set (T1 m c) ∗ ptR cc0_scratch8 c rB1.set (T2 m c))
      ⊢ iprop(((Wt m ρ c 5 ∗ owesE c (owed c D1) ∗ ptR cc0_scratch1 c rQ3.set (XS m ρ (peer c)) ∗ ptR cc0_scratch7 c rA1.set (T1 m c) ∗ ptR cc0_scratch8 c rB1.set (T2 m c)) -∗ Q ⟨k0_pay32 (XQ m ρ c 480 inb_S640x1024_S160x1024_480_0) (W11 m c), W21 m c⟩) -∗ WP (F := F) c (k0_part12 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 c v2 v8 v9 (XQ m ρ c 320 inb_S640x1024_S160x1024_320_0) (k0_pay30 (W11 m c)) (constant S160x2048 .f32 0x00000000#32)) Q) := by
  rw [k0_part12_eq_skeleton]
  unfold k0_part12_skel
  simp only [semSignalWord, semWaitWord, Prog.lift, Prog.bind_op, Prog.bind_ret, Prog.pure_eq_ret, wp_deviceId]
  iintro ⟨HP5, HR5, HP11, HO, Hq2, Hq3, Hr2, Hb1, Hc1⟩ Hk
  iapply (wp_ld c w2bM rB1 (le_of_eq (View.set_slice_whole _ _)) (f := T2 m c) (W21 m c) rfl) $$ Hc1
  iintro Hc1
  iapply (wp_ld c xrM rQ2 (le_of_eq (View.set_slice_whole _ _)) (f := _) _ rfl) $$ Hq2
  iintro Hq2
  iapply (wp_st c xrM rQ2 (le_of_eq (View.set_slice_whole _ _)) (RO m ρ c) (st_agr cc0_scratch1 rQ2 _ (RO m ρ c) _ (ro2 m ρ c))) $$ Hq2
  iintro Hq2
  iapply (wp_tx m ρ c 5 11 (S := D2) (S' := D1) (by decide) (by decide) (dev6_eq c) (xrM.slice rQ2 (fun _ => rfl)) (reM.slice rQ2 (fun _ => rfl)) rfl rfl rfl rfl (View.set_slice_whole _ _) (View.set_slice_whole _ _) (RO m ρ c) (cp_re rQ2 _ _ _ _) rfl (pay_tx11 m ρ c)) $$ [HP5 HR5 HP11 Hq2 Hr2 HO]
  · isplitl [HP5]; · iexact HP5
    isplitl [HR5]; · iexact HR5
    isplitl [HP11]; · iexact HP11
    isplitl [Hq2]; · iexact Hq2
    isplitl [Hr2]; · iexact Hr2
    iexact HO
  iintro ⟨HW5, HO⟩
  iapply (wp_ld c xrM rQ3 (le_of_eq (View.set_slice_whole _ _)) (f := XS m ρ (peer c)) (XQ m ρ c 480 inb_S640x1024_S160x1024_480_0) rfl) $$ Hq3
  iintro Hq3
  iapply (wp_ld c w1bM rA1 (le_of_eq (View.set_slice_whole _ _)) (f := T1 m c) (W11 m c) rfl) $$ Hb1
  iintro Hb1
  iapply (wp_ld c w2bM rB1 (le_of_eq (View.set_slice_whole _ _)) (f := T2 m c) (W21 m c) rfl) $$ Hc1
  iintro Hc1
  iapply (wp_done c (⟨k0_pay32 (XQ m ρ c 480 inb_S640x1024_S160x1024_480_0) (W11 m c), W21 m c⟩) ?_)
  · rfl
  iapply Hk
  isplitl [HW5]; · iexact HW5
  isplitl [HO]; · iexact HO
  isplitl [Hq3]; · iexact Hq3
  isplitl [Hb1]; · iexact Hb1
  iexact Hc1

set_option maxHeartbeats 2000000 in

/-- The last returned quarter is stored and sent back. -/
theorem part13_wp (c : Dev nD) {v2 v8 v9 : BitVec 32} {f2} {Q : _ → sProp (MT nD τ sig Unit (Elt F) ℕ UU ℕ)} :
    iprop(levAts L lv ∗ PayR m ρ c 6 ∗ WaitR m ρ c 6 ∗ PayR m ρ (peer c) 12 ∗ owesE c (owed c D1) ∗ ptR cc0_scratch1 c rQ3.set (XS m ρ (peer c)) ∗ ptR cc0_scratch2 (peer c) rQ3.set f2 ∗ Wt m ρ c 3)
      ⊢ iprop(((Wt m ρ c 6 ∗ owesE c (owed c D0) ∗ semVal (kcell (c, 3)) 0 ∗ ptR cc0_scratch1 c rQ0.set (RO m ρ c)) -∗ Q ⟨⟩) -∗ WP (F := F) c (k0_part13 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 c v2 v8 v9 (k0_pay32 (XQ m ρ c 480 inb_S640x1024_S160x1024_480_0) (W11 m c)) (W21 m c)) Q) := by
  rw [k0_part13_eq_skeleton]
  unfold k0_part13_skel
  simp only [semSignalWord, semWaitWord, Prog.lift, Prog.bind_op, Prog.bind_ret, Prog.pure_eq_ret, wp_deviceId]
  iintro ⟨#Hlev, HP6, HR6, HP12, HO, Hq3, Hr3, HW3⟩ Hk
  iapply (wp_ld c xrM rQ3 (le_of_eq (View.set_slice_whole _ _)) (f := _) _ rfl) $$ Hq3
  iintro Hq3
  iapply (wp_st c xrM rQ3 (le_of_eq (View.set_slice_whole _ _)) (RO m ρ c) (st_agr cc0_scratch1 rQ3 _ (RO m ρ c) _ (ro3 m ρ c))) $$ Hq3
  iintro Hq3
  iapply (wp_tx m ρ c 6 12 (S := D1) (S' := D0) (by decide) (by decide) (dev7_eq c) (xrM.slice rQ3 (fun _ => rfl)) (reM.slice rQ3 (fun _ => rfl)) rfl rfl rfl rfl (View.set_slice_whole _ _) (View.set_slice_whole _ _) (RO m ρ c) (cp_re rQ3 _ _ _ _) rfl (pay_tx12 m ρ c)) $$ [HP6 HR6 HP12 Hq3 Hr3 HO]
  · isplitl [HP6]; · iexact HP6
    isplitl [HR6]; · iexact HR6
    isplitl [HP12]; · iexact HP12
    isplitl [Hq3]; · iexact Hq3
    isplitl [Hr3]; · iexact Hr3
    iexact HO
  iintro ⟨HW6, HO⟩
  iapply (wp_wd m ρ c 3 D0 (by decide) (xrM.slice rQ0 (fun _ => rfl)) rfl rfl) $$ [HW3 HO]
  · isplitr; · iexact Hlev
    isplitl [HW3]; · iexact HW3
    iexact HO
  iintro ⟨HO, HZ3, Hp⟩
  ihave Hp := (Entails.of_eq (pay_3 m ρ c)) $$ Hp
  icases Hp with Hq0
  iapply (wp_done c (⟨⟩) ?_)
  · rfl
  iapply Hk
  isplitl [HW6]; · iexact HW6
  isplitl [HO]; · iexact HO
  isplitl [HZ3]; · iexact HZ3
  iexact Hq0

set_option maxHeartbeats 2000000 in

/-- The first half of the returned block has arrived and is added to the output. -/
theorem part14_wp (c : Dev nD) {v2 v8 v9 : BitVec 32} {Q : _ → sProp (MT nD τ sig Unit (Elt F) ℕ UU ℕ)} :
    iprop(levAts L lv ∗ owesE c (owed c D0) ∗ Wt m ρ c 9 ∗ Wt m ρ c 4 ∗ Wt m ρ c 10 ∗ ptR cc0_stg2_0 c Finset.univ (O1 m ρ c))
      ⊢ iprop(((owesE c (owed c D0) ∗ semVal (kcell (c, 9)) 0 ∗ semVal (kcell (c, 4)) 0 ∗ semVal (kcell (c, 10)) 0 ∗ ptR cc0_scratch1 c rQ1.set (RO m ρ c) ∗ ptR cc0_scratch2 c rH0.set (RO m ρ (peer c)) ∗ ptR cc0_stg2_0 c Finset.univ (O2 m ρ c)) -∗ Q ⟨⟩) -∗ WP (F := F) c (k0_part14 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 v2 v8 v9 (selS m ρ c)) Q) := by
  rw [k0_part14_eq_skeleton]
  unfold k0_part14_skel
  simp only [semSignalWord, semWaitWord, Prog.lift, Prog.bind_op, Prog.bind_ret, Prog.pure_eq_ret, wp_deviceId]
  iintro ⟨#Hlev, HO, HW9, HW4, HW10, Ho⟩ Hk
  iapply (wp_wd m ρ c 9 D0 (by decide) (reM.slice rQ0 (fun _ => rfl)) rfl rfl) $$ [HW9 HO]
  · isplitr; · iexact Hlev
    isplitl [HW9]; · iexact HW9
    iexact HO
  iintro ⟨HO, HZ9, Hp⟩
  ihave Hp := (Entails.of_eq (pay_9 m ρ c)) $$ Hp
  icases Hp with Hr0
  iapply (wp_wd m ρ c 4 D0 (by decide) (xrM.slice rQ1 (fun _ => rfl)) rfl rfl) $$ [HW4 HO]
  · isplitr; · iexact Hlev
    isplitl [HW4]; · iexact HW4
    iexact HO
  iintro ⟨HO, HZ4, Hp⟩
  ihave Hp := (Entails.of_eq (pay_4 m ρ c)) $$ Hp
  icases Hp with Hq1
  iapply (wp_wd m ρ c 10 D0 (by decide) (reM.slice rQ1 (fun _ => rfl)) rfl rfl) $$ [HW10 HO]
  · isplitr; · iexact Hlev
    isplitl [HW10]; · iexact HW10
    iexact HO
  iintro ⟨HO, HZ10, Hp⟩
  ihave Hp := (Entails.of_eq (pay_10 m ρ c)) $$ Hp
  icases Hp with Hr1
  ihave Hr01 := (ptR_cut (F := F) (b := cc0_scratch2) c cutQ0 (RO m ρ (peer c))).2 $$ [Hr0 Hr1]
  · isplitl [Hr0] <;> iassumption
  iapply (wp_ld c oM rFx (Finset.subset_univ _) _ (Memref.readAt_unit_zero (Elt F) cc0_stg2_0 (by funext a; fin_cases a <;> rfl) _ _)) $$ Ho
  iintro Ho
  iapply (wp_ld c reM rH0 (le_of_eq (View.set_slice_whole _ _)) (f := RO m ρ (peer c)) (RH m ρ c 0 inb_S640x1024_S320x1024_0_0) rfl) $$ Hr01
  iintro Hr01
  iapply (wp_ld c oM rFx (Finset.subset_univ _) _ (Memref.readAt_unit_zero (Elt F) cc0_stg2_0 (by funext a; fin_cases a <;> rfl) _ _)) $$ Ho
  iintro Ho
  iapply (wp_st c oM rFx (Finset.subset_univ _) (O2 m ρ c) (fun i _ => congrFun (Memref.write_access_unit_zero_univ (Elt F) cc0_stg2_0 (by funext a; fin_cases a <;> rfl) _ _ _) i)) $$ Ho
  iintro Ho
  iapply (wp_done c (⟨⟩) ?_)
  · rfl
  iapply Hk
  isplitl [HO]; · iexact HO
  isplitl [HZ9]; · iexact HZ9
  isplitl [HZ4]; · iexact HZ4
  isplitl [HZ10]; · iexact HZ10
  isplitl [Hq1]; · iexact Hq1
  isplitl [Hr01]; · iexact Hr01
  iexact Ho

set_option maxHeartbeats 2000000 in

/-- The second half of the returned block has arrived. -/
theorem part15_wp (c : Dev nD) {v2 v8 v9 : BitVec 32} {Q : _ → sProp (MT nD τ sig Unit (Elt F) ℕ UU ℕ)} :
    iprop(levAts L lv ∗ owesE c (owed c D0) ∗ Wt m ρ c 5 ∗ Wt m ρ c 11 ∗ Wt m ρ c 6 ∗ Wt m ρ c 12)
      ⊢ iprop(((owesE c (owed c D0) ∗ semVal (kcell (c, 5)) 0 ∗ semVal (kcell (c, 11)) 0 ∗ semVal (kcell (c, 6)) 0 ∗ semVal (kcell (c, 12)) 0 ∗ ptR cc0_scratch1 c rQ2.set (RO m ρ c) ∗ ptR cc0_scratch1 c rQ3.set (RO m ρ c) ∗ ptR cc0_scratch2 c rH1.set (RO m ρ (peer c))) -∗ Q ⟨⟩) -∗ WP (F := F) c (k0_part15 xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11 v2 v8 v9) Q) := by
  rw [k0_part15_eq_skeleton]
  unfold k0_part15_skel
  simp only [semSignalWord, semWaitWord, Prog.lift, Prog.bind_op, Prog.bind_ret, Prog.pure_eq_ret, wp_deviceId]
  iintro ⟨#Hlev, HO, HW5, HW11, HW6, HW12⟩ Hk
  iapply (wp_wd m ρ c 5 D0 (by decide) (xrM.slice rQ2 (fun _ => rfl)) rfl rfl) $$ [HW5 HO]
  · isplitr; · iexact Hlev
    isplitl [HW5]; · iexact HW5
    iexact HO
  iintro ⟨HO, HZ5, Hp⟩
  ihave Hp := (Entails.of_eq (pay_5 m ρ c)) $$ Hp
  icases Hp with Hq2
  iapply (wp_wd m ρ c 11 D0 (by decide) (reM.slice rQ2 (fun _ => rfl)) rfl rfl) $$ [HW11 HO]
  · isplitr; · iexact Hlev
    isplitl [HW11]; · iexact HW11
    iexact HO
  iintro ⟨HO, HZ11, Hp⟩
  ihave Hp := (Entails.of_eq (pay_11 m ρ c)) $$ Hp
  icases Hp with Hr2
  iapply (wp_wd m ρ c 6 D0 (by decide) (xrM.slice rQ3 (fun _ => rfl)) rfl rfl) $$ [HW6 HO]
  · isplitr; · iexact Hlev
    isplitl [HW6]; · iexact HW6
    iexact HO
  iintro ⟨HO, HZ6, Hp⟩
  ihave Hp := (Entails.of_eq (pay_6 m ρ c)) $$ Hp
  icases Hp with Hq3
  iapply (wp_wd m ρ c 12 D0 (by decide) (reM.slice rQ3 (fun _ => rfl)) rfl rfl) $$ [HW12 HO]
  · isplitr; · iexact Hlev
    isplitl [HW12]; · iexact HW12
    iexact HO
  iintro ⟨HO, HZ12, Hp⟩
  ihave Hp := (Entails.of_eq (pay_12 m ρ c)) $$ Hp
  icases Hp with Hr3
  ihave Hr23 := (ptR_cut (F := F) (b := cc0_scratch2) c cutQ1 (RO m ρ (peer c))).2 $$ [Hr2 Hr3]
  · isplitl [Hr2] <;> iassumption
  iapply (wp_done c (⟨⟩) ?_)
  · rfl
  iapply Hk
  isplitl [HO]; · iexact HO
  isplitl [HZ5]; · iexact HZ5
  isplitl [HZ11]; · iexact HZ11
  isplitl [HZ6]; · iexact HZ6
  isplitl [HZ12]; · iexact HZ12
  isplitl [Hq2]; · iexact Hq2
  isplitl [Hq3]; · iexact Hq3
  iexact Hr23

end Cert.KernelIdeal.Moe

end
-- ==== Proof.Body.lean ====
/-
The kernel's whole body on one device, and the pipeline's obligation.
-/
module

public import proofs.«01_k».proof.Proof.PartsB

@[expose] public section

noncomputable section

namespace Cert.KernelIdeal.Moe

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The kernel's own semaphores. -/
abbrev osem : Fin 20 → SemLoc sig := fun i => csem i.succ

/-- A separating product over the 21 cells, written out. -/
theorem bigSep_fin21 (Φ : Fin 21 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

/-- What a device holds of the protocol at the start: its own cells to wait on, and the cells it pays. -/
def ghost (c : Dev nD) : sProp (MT nD τ sig Unit (Elt F) ℕ UU ℕ) :=
  iprop((bigSep Finset.univ fun k : Fin 21 => WaitR m ρ c k) ∗ (bigSep Finset.univ fun k : Fin 21 => PayR m ρ (tgt k c) k))

/-- The credit the launch deals a device: for the cells its peer pays. -/
def crs (c : Dev nD) : sProp (MT nD τ sig Unit (Elt F) ℕ UU ℕ) :=
  iprop(cred (tallyAt (kcell (c, 0)) () (amt 0)) ∗ cred (tallyAt (kcell (c, 7)) () (amt 7)) ∗ cred (tallyAt (kcell (c, 8)) () (amt 8)) ∗ cred (tallyAt (kcell (c, 9)) () (amt 9)) ∗ cred (tallyAt (kcell (c, 10)) () (amt 10)) ∗ cred (tallyAt (kcell (c, 11)) () (amt 11)) ∗ cred (tallyAt (kcell (c, 12)) () (amt 12)))

/-- The device's weights, untouched. -/
def wts (c : Dev nD) : sProp (MT nD τ sig Unit (Elt F) ℕ UU ℕ) :=
  iprop(ptR main_arg2 c Finset.univ (w1 m c) ∗ ptR main_arg3 c Finset.univ (w2 m c))

/-- The scratch buffers, whatever they hold. -/
def scr (c : Dev nD) : sProp (MT nD τ sig Unit (Elt F) ℕ UU ℕ) :=
  iprop((∃ f, ptR cc0_scratch0 c Finset.univ f) ∗ (∃ f, ptR cc0_scratch1 c Finset.univ f) ∗ (∃ f, ptR cc0_scratch2 c Finset.univ f) ∗ (∃ f, ptR cc0_scratch3 c Finset.univ f) ∗ (∃ f, ptR cc0_scratch4 c Finset.univ f) ∗ (∃ f, ptR cc0_scratch5 c Finset.univ f) ∗ (∃ f, ptR cc0_scratch6 c Finset.univ f) ∗ (∃ f, ptR cc0_scratch7 c Finset.univ f) ∗ (∃ f, ptR cc0_scratch8 c Finset.univ f))

def start (c : Dev nD) : sProp (MT nD τ sig Unit (Elt F) ℕ UU ℕ) := iprop(ghost m ρ c ∗ crs c ∗ levAts L lv ∗ wts m c)
/-- Every cell closed. -/
def zeros (c : Dev nD) : sProp (MT nD τ sig Unit (Elt F) ℕ UU ℕ) := bigSep Finset.univ fun k : Fin 21 => semVal (kcell (c, k)) 0

def Φ₀ (c : Dev nD) : sProp (MT nD τ sig Unit (Elt F) ℕ UU ℕ) := iprop(start m ρ c ∗ scr c)
def Φ₁ (c : Dev nD) : sProp (MT nD τ sig Unit (Elt F) ℕ UU ℕ) := iprop(scr c ∗ zeros c ∗ wts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => astg m ρ c
    | ⟨2, _⟩ => OUT m ρ c
    | ⟨_ + 3, h⟩ => absurd h (Nat.not_lt.2 (Nat.le_add_left _ _))
  Φ t := match t with | ⟨0, _⟩ => Φ₀ m ρ c | ⟨_ + 1, _⟩ => Φ₁ m c
  q _ := fullShare
  owed t := match t with | ⟨0, _⟩ => owed c S₀ | ⟨_ + 1, _⟩ => 0

/-- Owning a whole buffer is holding all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

/-! ## The body -/

set_option maxHeartbeats 4000000 in
/-- The kernel's body on device `c`, from what the launch deals it to its result and everything handed back. -/
theorem sound_body (c : Dev nD) (fo : Buf (Elt F) ((c : Thread nD τ).loc cc0_stg2_0)) :
    iprop(start m ρ c ∗ scr c ∗ owesE c (owed c S₀) ∗ ptR cc0_stg0_0 c Finset.univ (xstg m ρ c) ∗ ptR cc0_stg1_0 c Finset.univ (astg m ρ c) ∗ ptR cc0_stg2_0 c Finset.univ fo)
      ⊢ wp frame (wpE (defs₀ (F := F)) 𝒱₀ (c : Thread nD τ) none) Set.univ (cc0_body xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11)
          (fun _ => iprop(Φ₁ m c ∗ owesE c 0 ∗ ptR cc0_stg0_0 c Finset.univ (xstg m ρ c) ∗ ptR cc0_stg1_0 c Finset.univ (astg m ρ c) ∗ ptR cc0_stg2_0 c Finset.univ (OUT m ρ c))) := by
  rw [cc0_body_eq_skeleton]
  unfold cc0_body_skel start
  unfold ghost crs wts scr; rw [bigSep_fin21, bigSep_fin21]
  iintro ⟨⟨⟨⟨HR0, HR1, HR2, HR3, HR4, HR5, HR6, HR7, HR8, HR9, HR10, HR11, HR12, HR13, HR14, HR15, HR16, HR17, HR18, HR19, HR20⟩, ⟨HP0, HP1, HP2, HP3, HP4, HP5, HP6, HP7, HP8, HP9, HP10, HP11, HP12, HP13, HP14, HP15, HP16, HP17, HP18, HP19, HP20⟩⟩, ⟨HC0, HC7, HC8, HC9, HC10, HC11, HC12⟩, #Hlev, HA, HB⟩, ⟨⟨%f0, Hxs⟩, ⟨%f1, Hx1⟩, ⟨%f2, Hx2⟩, ⟨%f3, Hs3⟩, ⟨%f4, Hs4⟩, ⟨%f5, Hs5⟩, ⟨%f6, Hs6⟩, ⟨%f7, Hb⟩, ⟨%f8, Hc⟩⟩, HO, Hx, Ha, Ho⟩
  ihave HP0 := (Entails.of_eq (show PayR m ρ (tgt 0 c) 0 = PayR m ρ (peer c) 0 from rfl)) $$ HP0
  ihave HP1 := (Entails.of_eq (show PayR m ρ (tgt 1 c) 1 = PayR m ρ c 1 from rfl)) $$ HP1
  ihave HP2 := (Entails.of_eq (show PayR m ρ (tgt 2 c) 2 = PayR m ρ c 2 from rfl)) $$ HP2
  ihave HP3 := (Entails.of_eq (show PayR m ρ (tgt 3 c) 3 = PayR m ρ c 3 from rfl)) $$ HP3
  ihave HP4 := (Entails.of_eq (show PayR m ρ (tgt 4 c) 4 = PayR m ρ c 4 from rfl)) $$ HP4
  ihave HP5 := (Entails.of_eq (show PayR m ρ (tgt 5 c) 5 = PayR m ρ c 5 from rfl)) $$ HP5
  ihave HP6 := (Entails.of_eq (show PayR m ρ (tgt 6 c) 6 = PayR m ρ c 6 from rfl)) $$ HP6
  ihave HP7 := (Entails.of_eq (show PayR m ρ (tgt 7 c) 7 = PayR m ρ (peer c) 7 from rfl)) $$ HP7
  ihave HP8 := (Entails.of_eq (show PayR m ρ (tgt 8 c) 8 = PayR m ρ (peer c) 8 from rfl)) $$ HP8
  ihave HP9 := (Entails.of_eq (show PayR m ρ (tgt 9 c) 9 = PayR m ρ (peer c) 9 from rfl)) $$ HP9
  ihave HP10 := (Entails.of_eq (show PayR m ρ (tgt 10 c) 10 = PayR m ρ (peer c) 10 from rfl)) $$ HP10
  ihave HP11 := (Entails.of_eq (show PayR m ρ (tgt 11 c) 11 = PayR m ρ (peer c) 11 from rfl)) $$ HP11
  ihave HP12 := (Entails.of_eq (show PayR m ρ (tgt 12 c) 12 = PayR m ρ (peer c) 12 from rfl)) $$ HP12
  ihave HP13 := (Entails.of_eq (show PayR m ρ (tgt 13 c) 13 = PayR m ρ c 13 from rfl)) $$ HP13
  ihave HP14 := (Entails.of_eq (show PayR m ρ (tgt 14 c) 14 = PayR m ρ c 14 from rfl)) $$ HP14
  ihave HP15 := (Entails.of_eq (show PayR m ρ (tgt 15 c) 15 = PayR m ρ c 15 from rfl)) $$ HP15
  ihave HP16 := (Entails.of_eq (show PayR m ρ (tgt 16 c) 16 = PayR m ρ c 16 from rfl)) $$ HP16
  ihave HP17 := (Entails.of_eq (show PayR m ρ (tgt 17 c) 17 = PayR m ρ c 17 from rfl)) $$ HP17
  ihave HP18 := (Entails.of_eq (show PayR m ρ (tgt 18 c) 18 = PayR m ρ c 18 from rfl)) $$ HP18
  ihave HP19 := (Entails.of_eq (show PayR m ρ (tgt 19 c) 19 = PayR m ρ c 19 from rfl)) $$ HP19
  ihave HP20 := (Entails.of_eq (show PayR m ρ (tgt 20 c) 20 = PayR m ρ c 20 from rfl)) $$ HP20
  ihave HW0 := (Entails.of_eq (show iprop(WaitR m ρ c 0 ∗ cred (tallyAt (kcell (c, 0)) () (amt 0))) = Wt m ρ c 0 from rfl)) $$ [HR0 HC0]
  · isplitl [HR0] <;> iassumption
  ihave HW7 := (Entails.of_eq (show iprop(WaitR m ρ c 7 ∗ cred (tallyAt (kcell (c, 7)) () (amt 7))) = Wt m ρ c 7 from rfl)) $$ [HR7 HC7]
  · isplitl [HR7] <;> iassumption
  ihave HW8 := (Entails.of_eq (show iprop(WaitR m ρ c 8 ∗ cred (tallyAt (kcell (c, 8)) () (amt 8))) = Wt m ρ c 8 from rfl)) $$ [HR8 HC8]
  · isplitl [HR8] <;> iassumption
  ihave HW9 := (Entails.of_eq (show iprop(WaitR m ρ c 9 ∗ cred (tallyAt (kcell (c, 9)) () (amt 9))) = Wt m ρ c 9 from rfl)) $$ [HR9 HC9]
  · isplitl [HR9] <;> iassumption
  ihave HW10 := (Entails.of_eq (show iprop(WaitR m ρ c 10 ∗ cred (tallyAt (kcell (c, 10)) () (amt 10))) = Wt m ρ c 10 from rfl)) $$ [HR10 HC10]
  · isplitl [HR10] <;> iassumption
  ihave HW11 := (Entails.of_eq (show iprop(WaitR m ρ c 11 ∗ cred (tallyAt (kcell (c, 11)) () (amt 11))) = Wt m ρ c 11 from rfl)) $$ [HR11 HC11]
  · isplitl [HR11] <;> iassumption
  ihave HW12 := (Entails.of_eq (show iprop(WaitR m ρ c 12 ∗ cred (tallyAt (kcell (c, 12)) () (amt 12))) = Wt m ρ c 12 from rfl)) $$ [HR12 HC12]
  · isplitl [HR12] <;> iassumption
  icases (ptR_cut (F := F) (b := main_arg2) c cutA (w1 m c)).1 $$ HA with ⟨HA0, HA1⟩
  icases (ptR_cut (F := F) (b := main_arg2) c cutA0 (w1 m c)).1 $$ HA0 with ⟨HA00, HA01⟩
  icases (ptR_cut (F := F) (b := main_arg2) c cutA1 (w1 m c)).1 $$ HA1 with ⟨HA10, HA11⟩
  icases (ptR_cut (F := F) (b := main_arg3) c cutB (w2 m c)).1 $$ HB with ⟨HB0, HB1⟩
  icases (ptR_cut (F := F) (b := main_arg3) c cutB0 (w2 m c)).1 $$ HB0 with ⟨HB00, HB01⟩
  icases (ptR_cut (F := F) (b := main_arg3) c cutB1 (w2 m c)).1 $$ HB1 with ⟨HB10, HB11⟩
  icases (ptR_cut (F := F) (b := cc0_scratch7) c cutA (f7)).1 $$ Hb with ⟨Hb0, Hb1⟩
  icases (ptR_cut (F := F) (b := cc0_scratch7) c cutA0 (f7)).1 $$ Hb0 with ⟨Hb00, Hb01⟩
  icases (ptR_cut (F := F) (b := cc0_scratch7) c cutA1 (f7)).1 $$ Hb1 with ⟨Hb10, Hb11⟩
  icases (ptR_cut (F := F) (b := cc0_scratch8) c cutB (f8)).1 $$ Hc with ⟨Hc0, Hc1⟩
  icases (ptR_cut (F := F) (b := cc0_scratch8) c cutB0 (f8)).1 $$ Hc0 with ⟨Hc00, Hc01⟩
  icases (ptR_cut (F := F) (b := cc0_scratch8) c cutB1 (f8)).1 $$ Hc1 with ⟨Hc10, Hc11⟩
  rw [wp_bind]
  iapply (part1_wp m ρ c) $$ [HP13 HR13 HP14 HR14 HP15 HR15 HP16 HR16 HA00 HA01 HB00 HB01 Hs3 Hs4 Hs5 Hs6]
  · isplitl [HP13]; · iexact HP13
    isplitl [HR13]; · iexact HR13
    isplitl [HP14]; · iexact HP14
    isplitl [HR14]; · iexact HR14
    isplitl [HP15]; · iexact HP15
    isplitl [HR15]; · iexact HR15
    isplitl [HP16]; · iexact HP16
    isplitl [HR16]; · iexact HR16
    isplitl [HA00]; · iexact HA00
    isplitl [HA01]; · iexact HA01
    isplitl [HB00]; · iexact HB00
    isplitl [HB01]; · iexact HB01
    isplitl [Hs3]; · iexact Hs3
    isplitl [Hs4]; · iexact Hs4
    isplitl [Hs5]; · iexact Hs5
    iexact Hs6
  iintro ⟨HW13, HW14, HW15, HW16⟩
  try dsimp only
  rw [wp_bind]
  iapply (part2_wp m ρ c) $$ [HP0 HW0 HO Hx1 Hx2 Ha]
  · isplitr; · iexact Hlev
    isplitl [HP0]; · iexact HP0
    isplitl [HW0]; · iexact HW0
    isplitl [HO]; · iexact HO
    isplitl [Hx1]; · iexact Hx1
    isplitl [Hx2]; · iexact Hx2
    iexact Ha
  iintro ⟨HZ0, HO, Hx1, Hx2, Ha⟩
  try dsimp only
  rw [wp_bind]
  iapply (part3_wp m ρ c) $$ [Hx]
  · iexact Hx
  iintro Hx
  try dsimp only
  rw [wp_bind]
  icases Hx1 with ⟨%f1', Hx1⟩
  iapply (part4_wp m ρ c) $$ [HP1 HR1 HP7 HP2 HR2 HP8 HO Hxs Hx1]
  · isplitl [HP1]; · iexact HP1
    isplitl [HR1]; · iexact HR1
    isplitl [HP7]; · iexact HP7
    isplitl [HP2]; · iexact HP2
    isplitl [HR2]; · iexact HR2
    isplitl [HP8]; · iexact HP8
    isplitl [HO]; · iexact HO
    isplitl [Hxs]; · iexact Hxs
    iexact Hx1
  iintro ⟨HW1, HW2, HO⟩
  try dsimp only
  rw [wp_bind]
  iapply (part5_wp m ρ c) $$ [HO HW13 HW14 HP17 HR17 HP18 HR18 HA10 HA11 Hb00 Hb01]
  · isplitr; · iexact Hlev
    isplitl [HO]; · iexact HO
    isplitl [HW13]; · iexact HW13
    isplitl [HW14]; · iexact HW14
    isplitl [HP17]; · iexact HP17
    isplitl [HR17]; · iexact HR17
    isplitl [HP18]; · iexact HP18
    isplitl [HR18]; · iexact HR18
    isplitl [HA10]; · iexact HA10
    isplitl [HA11]; · iexact HA11
    isplitl [Hb00]; · iexact Hb00
    iexact Hb01
  iintro ⟨HO, HZ13, HZ14, HW17, HW18, HA00, HA01, Hb0⟩
  try dsimp only
  rw [wp_bind]
  iapply (part6_wp m ρ c) $$ [HO HW15 HW16 HP19 HR19 HP20 HR20 HB10 HB11 Hc00 Hc01 Hb0]
  · isplitr; · iexact Hlev
    isplitl [HO]; · iexact HO
    isplitl [HW15]; · iexact HW15
    isplitl [HW16]; · iexact HW16
    isplitl [HP19]; · iexact HP19
    isplitl [HR19]; · iexact HR19
    isplitl [HP20]; · iexact HP20
    isplitl [HR20]; · iexact HR20
    isplitl [HB10]; · iexact HB10
    isplitl [HB11]; · iexact HB11
    isplitl [Hc00]; · iexact Hc00
    isplitl [Hc01]; · iexact Hc01
    iexact Hb0
  iintro ⟨HO, HZ15, HZ16, HW19, HW20, HB00, HB01, Hb0, Hc0⟩
  try dsimp only
  rw [wp_bind]
  iapply (part7_wp m ρ c) $$ [HO HW1 HW7 Hb0 Hc0]
  · isplitr; · iexact Hlev
    isplitl [HO]; · iexact HO
    isplitl [HW1]; · iexact HW1
    isplitl [HW7]; · iexact HW7
    isplitl [Hb0]; · iexact Hb0
    iexact Hc0
  iintro ⟨HO, HZ1, HZ7, Hxs0, Hq0, Hq1, Hb0, Hc0⟩
  try dsimp only
  rw [wp_bind]
  icases Hx2 with ⟨%f2', Hx2⟩
  icases (ptR_cut (F := F) (b := cc0_scratch2) (peer c) cutH f2').1 $$ Hx2 with ⟨Hr01, Hr23⟩
  icases (ptR_cut (F := F) (b := cc0_scratch2) (peer c) cutQ0 f2').1 $$ Hr01 with ⟨Hr0, Hr1⟩
  icases (ptR_cut (F := F) (b := cc0_scratch2) (peer c) cutQ1 f2').1 $$ Hr23 with ⟨Hr2, Hr3⟩
  iapply (part8_wp m ρ c) $$ [HP3 HR3 HP9 HO Hq0 Hq1 Hr0 Hb0 Hc0]
  · isplitl [HP3]; · iexact HP3
    isplitl [HR3]; · iexact HR3
    isplitl [HP9]; · iexact HP9
    isplitl [HO]; · iexact HO
    isplitl [Hq0]; · iexact Hq0
    isplitl [Hq1]; · iexact Hq1
    isplitl [Hr0]; · iexact Hr0
    isplitl [Hb0]; · iexact Hb0
    iexact Hc0
  iintro ⟨HW3, HO, Hq1, Hb0, Hc0⟩
  try dsimp only
  rw [wp_bind]
  iapply (part9_wp m ρ c) $$ [HP4 HR4 HP10 HO Hq1 Hr1 HW17 HW18 Hb10]
  · isplitr; · iexact Hlev
    isplitl [HP4]; · iexact HP4
    isplitl [HR4]; · iexact HR4
    isplitl [HP10]; · iexact HP10
    isplitl [HO]; · iexact HO
    isplitl [Hq1]; · iexact Hq1
    isplitl [Hr1]; · iexact Hr1
    isplitl [HW17]; · iexact HW17
    isplitl [HW18]; · iexact HW18
    iexact Hb10
  iintro ⟨HW4, HO, HZ17, HZ18, Hs3, Hs4, HA10, HA11, Hb10⟩
  try dsimp only
  rw [wp_bind]
  iapply (part10_wp m ρ c) $$ [HO HW19 HW20 Hb10 Hb11 Hc10 Hc11]
  · isplitr; · iexact Hlev
    isplitl [HO]; · iexact HO
    isplitl [HW19]; · iexact HW19
    isplitl [HW20]; · iexact HW20
    isplitl [Hb10]; · iexact Hb10
    isplitl [Hb11]; · iexact Hb11
    isplitl [Hc10]; · iexact Hc10
    iexact Hc11
  iintro ⟨HO, HZ19, HZ20, Hs5, Hs6, HB10, HB11, Hb1, Hc1⟩
  try dsimp only
  rw [wp_bind]
  iapply (part11_wp m ρ c) $$ [HO HW2 HW8 Ho Hb1 Hc1]
  · isplitr; · iexact Hlev
    isplitl [HO]; · iexact HO
    isplitl [HW2]; · iexact HW2
    isplitl [HW8]; · iexact HW8
    isplitl [Ho]; · iexact Ho
    isplitl [Hb1]; · iexact Hb1
    iexact Hc1
  iintro ⟨HO, HZ2, HZ8, Ho, Hxs1, Hq2, Hq3, Hb1, Hc1⟩
  try dsimp only
  rw [wp_bind]
  iapply (part12_wp m ρ c) $$ [HP5 HR5 HP11 HO Hq2 Hq3 Hr2 Hb1 Hc1]
  · isplitl [HP5]; · iexact HP5
    isplitl [HR5]; · iexact HR5
    isplitl [HP11]; · iexact HP11
    isplitl [HO]; · iexact HO
    isplitl [Hq2]; · iexact Hq2
    isplitl [Hq3]; · iexact Hq3
    isplitl [Hr2]; · iexact Hr2
    isplitl [Hb1]; · iexact Hb1
    iexact Hc1
  iintro ⟨HW5, HO, Hq3, Hb1, Hc1⟩
  try dsimp only
  rw [wp_bind]
  iapply (part13_wp m ρ c) $$ [HP6 HR6 HP12 HO Hq3 Hr3 HW3]
  · isplitr; · iexact Hlev
    isplitl [HP6]; · iexact HP6
    isplitl [HR6]; · iexact HR6
    isplitl [HP12]; · iexact HP12
    isplitl [HO]; · iexact HO
    isplitl [Hq3]; · iexact Hq3
    isplitl [Hr3]; · iexact Hr3
    iexact HW3
  iintro ⟨HW6, HO, HZ3, Hq0⟩
  try dsimp only
  rw [wp_bind]
  iapply (part14_wp m ρ c) $$ [HO HW9 HW4 HW10 Ho]
  · isplitr; · iexact Hlev
    isplitl [HO]; · iexact HO
    isplitl [HW9]; · iexact HW9
    isplitl [HW4]; · iexact HW4
    isplitl [HW10]; · iexact HW10
    iexact Ho
  iintro ⟨HO, HZ9, HZ4, HZ10, Hq1, Hr01, Ho⟩
  try dsimp only
  rw [wp_bind]
  iapply (part15_wp m ρ c) $$ [HO HW5 HW11 HW6 HW12]
  · isplitr; · iexact Hlev
    isplitl [HO]; · iexact HO
    isplitl [HW5]; · iexact HW5
    isplitl [HW11]; · iexact HW11
    isplitl [HW6]; · iexact HW6
    iexact HW12
  iintro ⟨HO, HZ5, HZ11, HZ6, HZ12, Hq2, Hq3, Hr23⟩
  try dsimp only
  simp only [Prog.lift, Prog.bind_op, Prog.bind_ret, Prog.pure_eq_ret]
  iapply (wp_ld c oM rFx (Finset.subset_univ _) _ (Memref.readAt_unit_zero (Elt F) cc0_stg2_0 (by funext a; fin_cases a <;> rfl) _ _)) $$ Ho
  iintro Ho
  iapply (wp_ld c reM rH1 (le_of_eq (View.set_slice_whole _ _)) (f := RO m ρ (peer c)) (RH m ρ c 320 inb_S640x1024_S320x1024_320_0) rfl) $$ Hr23
  iintro Hr23
  iapply (wp_ld c oM rFx (Finset.subset_univ _) _ (Memref.readAt_unit_zero (Elt F) cc0_stg2_0 (by funext a; fin_cases a <;> rfl) _ _)) $$ Ho
  iintro Ho
  iapply (wp_st c oM rFx (Finset.subset_univ _) (OUT m ρ c) (fun i _ => congrFun (Memref.write_access_unit_zero_univ (Elt F) cc0_stg2_0 (by funext a; fin_cases a <;> rfl) _ _ _) i)) $$ Ho
  iintro Ho
  iapply (wp_done c ⟨⟩ rfl)
  ihave Hxs := (ptR_cut (F := F) (b := cc0_scratch0) c cutH (XS m ρ c)).2 $$ [Hxs0 Hxs1]
  · isplitl [Hxs0] <;> iassumption
  ihave Hq01 := (ptR_cut (F := F) (b := cc0_scratch1) c cutQ0 (RO m ρ c)).2 $$ [Hq0 Hq1]
  · isplitl [Hq0] <;> iassumption
  ihave Hq23 := (ptR_cut (F := F) (b := cc0_scratch1) c cutQ1 (RO m ρ c)).2 $$ [Hq2 Hq3]
  · isplitl [Hq2] <;> iassumption
  ihave Hxr := (ptR_cut (F := F) (b := cc0_scratch1) c cutH (RO m ρ c)).2 $$ [Hq01 Hq23]
  · isplitl [Hq01] <;> iassumption
  ihave Hre := (ptR_cut (F := F) (b := cc0_scratch2) c cutH (RO m ρ (peer c))).2 $$ [Hr01 Hr23]
  · isplitl [Hr01] <;> iassumption
  ihave Hb := (ptR_cut (F := F) (b := cc0_scratch7) c cutA (T1 m c)).2 $$ [Hb0 Hb1]
  · isplitl [Hb0] <;> iassumption
  ihave Hc := (ptR_cut (F := F) (b := cc0_scratch8) c cutB (T2 m c)).2 $$ [Hc0 Hc1]
  · isplitl [Hc0] <;> iassumption
  ihave HA0 := (ptR_cut (F := F) (b := main_arg2) c cutA0 (w1 m c)).2 $$ [HA00 HA01]
  · isplitl [HA00] <;> iassumption
  ihave HA1 := (ptR_cut (F := F) (b := main_arg2) c cutA1 (w1 m c)).2 $$ [HA10 HA11]
  · isplitl [HA10] <;> iassumption
  ihave HA := (ptR_cut (F := F) (b := main_arg2) c cutA (w1 m c)).2 $$ [HA0 HA1]
  · isplitl [HA0] <;> iassumption
  ihave HB0 := (ptR_cut (F := F) (b := main_arg3) c cutB0 (w2 m c)).2 $$ [HB00 HB01]
  · isplitl [HB00] <;> iassumption
  ihave HB1 := (ptR_cut (F := F) (b := main_arg3) c cutB1 (w2 m c)).2 $$ [HB10 HB11]
  · isplitl [HB10] <;> iassumption
  ihave HB := (ptR_cut (F := F) (b := main_arg3) c cutB (w2 m c)).2 $$ [HB0 HB1]
  · isplitl [HB0] <;> iassumption
  unfold Φ₁ scr zeros wts; rw [bigSep_fin21]
  isplitr [HO Hx Ha Ho]
  · isplitl [Hxs Hxr Hre Hs3 Hs4 Hs5 Hs6 Hb Hc]
    · isplitl [Hxs]; · iexists _; iexact Hxs
      isplitl [Hxr]; · iexists _; iexact Hxr
      isplitl [Hre]; · iexists _; iexact Hre
      isplitl [Hs3]; · iexact Hs3
      isplitl [Hs4]; · iexact Hs4
      isplitl [Hs5]; · iexact Hs5
      isplitl [Hs6]; · iexact Hs6
      isplitl [Hb]; · iexists _; iexact Hb
      iexists _; iexact Hc
    isplitr [HA HB]
    · isplitl [HZ0]; · iexact HZ0
      isplitl [HZ1]; · iexact HZ1
      isplitl [HZ2]; · iexact HZ2
      isplitl [HZ3]; · iexact HZ3
      isplitl [HZ4]; · iexact HZ4
      isplitl [HZ5]; · iexact HZ5
      isplitl [HZ6]; · iexact HZ6
      isplitl [HZ7]; · iexact HZ7
      isplitl [HZ8]; · iexact HZ8
      isplitl [HZ9]; · iexact HZ9
      isplitl [HZ10]; · iexact HZ10
      isplitl [HZ11]; · iexact HZ11
      isplitl [HZ12]; · iexact HZ12
      isplitl [HZ13]; · iexact HZ13
      isplitl [HZ14]; · iexact HZ14
      isplitl [HZ15]; · iexact HZ15
      isplitl [HZ16]; · iexact HZ16
      isplitl [HZ17]; · iexact HZ17
      isplitl [HZ18]; · iexact HZ18
      isplitl [HZ19]; · iexact HZ19
      iexact HZ20
    isplitl [HA]; · iexact HA
    iexact HB
  isplitl [HO]; · rw [← owed_empty c]; iexact HO
  isplitl [Hx]; · iexact Hx
  isplitl [Ha]; · iexact Ha
  iexact Ho

def bodyPre (c : Dev nD) : sProp (MT nD τ sig Unit (Elt F) ℕ UU ℕ) :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp (MT nD τ sig Unit (Elt F) ℕ UU ℕ) :=
  iprop(Φ₁ m c ∗ (dats m ρ 0 c).owesAt () t0_0.succ ∗ stg c cc0_stg0_0 (xstg m ρ c) ∗ stg c cc0_stg1_0 (astg m ρ c) ∗ stg c cc0_stg2_0 (OUT m ρ c))

set_option maxHeartbeats 2000000 in
set_option maxRecDepth 8000 in
/-- The body obligation of the pipeline on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) aM (Memref.isWhole_whole _) w1M (Memref.isWhole_whole _) w2M (Memref.isWhole_whole _) oM (Memref.isWhole_whole _) xsM (Memref.isWhole_whole _) xrM (Memref.isWhole_whole _) reM (Memref.isWhole_whole _) s1aM (Memref.isWhole_whole _) s1bM (Memref.isWhole_whole _) s2aM (Memref.isWhole_whole _) s2bM (Memref.isWhole_whole _) w1bM (Memref.isWhole_whole _) w2bM (Memref.isWhole_whole _) cc0_scratch9 cc0_scratch10 cc0_scratch11) (fun _ => bodyPost m ρ c)
  unfold bodyPre Φ₀
  iintro ⟨⟨Hst, Hscr⟩, Ho, ⟨%d0, %g0, %hg0, Hx⟩, ⟨%d1, %g1, %hg1, Ha⟩, ⟨%d2, %g2, %hg2, Hout⟩⟩
  have hx : g0 = xstg m ρ c := by rw [hg0]; unfold Dat.before; rw [if_pos (fetch0_0 t0_0)]; rfl
  have ha : g1 = astg m ρ c := by rw [hg1]; unfold Dat.before; rw [if_pos (fetch0_1 t0_0)]; rfl
  subst hx ha
  unfold Dat.owesAt Pipeline.owesWithin
  icases Ho with ⟨%W, %hW, HO⟩
  rw [show (dats m ρ 0 c).owed t0_0.castSucc = owed c S₀ from rfl]
  iapply (wp_wand frame (wpE (defs₀ (F := F)) 𝒱₀ (c : Thread nD τ) none) Set.univ) $$ [Hst Hscr HO Hx Ha Hout]
  · iapply (sound_body m ρ c g2)
    isplitl [Hst]; · iexact Hst
    isplitl [Hscr]; · iexact Hscr
    isplitl [HO]; · unfold owesE; iexists W; iexact HO
    isplitl [Hx]; · iexact Hx
    isplitl [Ha]; · iexact Ha
    iexact Hout
  iintro %u ⟨HΦ, HO, Hx, Ha, Hout⟩
  unfold bodyPost Dat.owesAt Pipeline.owesWithin owesE
  rw [show (dats m ρ 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  iexists _; isplitr; · (ipureintro; rfl)
  iexact Hout

end Cert.KernelIdeal.Moe

end
-- ==== Proof.Launch.lean ====
/-
The launch of the kernel on all devices, and its run.
-/
module

public import proofs.«01_k».proof.Proof.Body
public import Idealize.ShloMosaic.Lib.Pipeline.CollectiveSegs

@[expose] public section

noncomputable section

namespace Cert.KernelIdeal.Moe

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The semaphores the call owns are listed without repetition and none is missing. -/
theorem ownSemFacts : Pipeline.OwnSemFacts cfg0.spec osem := by decide +kernel

/-- Every operand is held in full. -/
theorem share_eq (c : Dev nD) (w : Fin cfg0.W) : (dats m ρ 0 c).share w = fullShare := by unfold Dat.share; split <;> rfl

abbrev tokOf (ck : Dev nD × Fin 21) : GSem nD τ sig × ℕ × Unit := (kcell ck, 0, ())
/-- Different cells have different tokens. -/
theorem tokOf_injective : Function.Injective tokOf := fun a b h => kcell_injective (congrArg Prod.fst h)

def ringCells : Finset (GSem nD τ sig) := Finset.univ.map ⟨kcell, kcell_injective⟩
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- What the launch deals device `c`: its cells' round states, positions, records and duty tokens. -/
def G (c : Dev nD) : sProp (MT nD τ sig Unit (Elt F) ℕ UU ℕ) :=
  iprop((bigSep Finset.univ fun k : Fin 21 => roundState ER (Rd m ρ) (kcell (c, k)) 0)
    ∗ (bigSep Finset.univ fun k : Fin 21 => atPos ER (kcell (c, k)) 0 ∅ 0)
    ∗ (bigSep Finset.univ fun k : Fin 21 => reached ER (kcell (c, k)) 0)
    ∗ (bigSep Finset.univ fun k : Fin 21 => dutyTok ER (kcell (c, k)) 0 ()))

/-- The initial ghost state funds every device with its positions and its duties. -/
theorem fund_ring : BI.own (ER (initOf ringCells ringToks)) ⊢ (|==> bigSep Finset.univ (G m ρ) : sProp (MT nD τ sig Unit (Elt F) ℕ UU ℕ)) := by
  have hX (Φ : GSem nD τ sig → sProp (MT nD τ sig Unit (Elt F) ℕ UU ℕ)) : bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp (MT nD τ sig Unit (Elt F) ℕ UU ℕ)))
      = bigSep Finset.univ fun c : Dev nD => bigSep Finset.univ fun k : Fin 21 => dutyTok ER (kcell (c, k)) 0 () := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The semaphores owned by the call, all at zero, one by one. -/
theorem ownSems0_eq (c : Dev nD) : (Pipeline.ownSems0 (Ix := Unit) (Name := ℕ) (U := UU) (Lvl := ℕ) (Val := Elt F) (τ := τ) osem c : sProp (MT nD τ sig Unit (Elt F) ℕ UU ℕ))
    = bigSepL [0, 1, 2, 3, 4, 5, 6, 7, 8, 9, 10, 11, 12, 13, 14, 15, 16, 17, 18, 19] fun k : Fin 20 => semVal (kcell (c, k.succ)) 0 :=
  Pipeline.ownSems0_eq_of_list c osem _ (by decide) (by decide)

/-- The only semaphore that outlives the call is the barrier. -/
theorem unscopedSems0_eq (c : Dev nD) : (unscopedSems0 c : sProp (MT nD τ sig Unit (Elt F) ℕ UU ℕ)) = semVal (kcell (c, 0)) 0 := by
  unfold unscopedSems0; rw [bigSep_eq_bigSepL_of_eq [SemLoc.reg barS.sem] (by decide +kernel) (by decide)]; rfl

/-- The 21 cells at zero are the barrier and the semaphores owned by the call. -/
theorem sems_eq (c : Dev nD) : zeros (F := F) c
    = iprop(unscopedSems0 c ∗ Pipeline.ownSems0 (Ix := Unit) (Name := ℕ) (U := UU) (Lvl := ℕ) (Val := Elt F) (τ := τ) osem c) := by
  unfold zeros; rw [ownSems0_eq, unscopedSems0_eq, bigSep_fin21]; rfl

/-- A persistent fact may be used in every factor of a separating product. -/
theorem bigSep_with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all cells, under names `K`. -/
def invs (K : Dev nD × Fin 21 → ℕ) : sProp (MT nD τ sig Unit (Elt F) ℕ UU ℕ) :=
  bigSep Finset.univ fun ck : Dev nD × Fin 21 => cellInv ER (Rd m ρ) (K ck) (kcell ck)
instance invs_persistent (K : Dev nD × Fin 21 → ℕ) : BI.Persistent (invs m ρ K) := by unfold invs; infer_instance

/-- `(c, k)` to the device that pays cell `k` of `c`, a permutation. -/
def swp : Dev nD × Fin 21 ≃ Dev nD × Fin 21 :=
  ⟨fun x => (tgt x.2 x.1, x.2), fun x => (tgt x.2 x.1, x.2), fun x => by simp only [tgt_tgt], fun x => by simp only [tgt_tgt]⟩

/-- The invariant of one cell, out of all of them. -/
theorem inv_at (K : Dev nD × Fin 21 → ℕ) (ck : Dev nD × Fin 21) :
    (bigSep Finset.univ fun ck : Dev nD × Fin 21 => (cellInv ER (Rd m ρ) (K ck) (kcell ck) : sProp (MT nD τ sig Unit (Elt F) ℕ UU ℕ))) ⊢ cellInv ER (Rd m ρ) (K ck) (kcell ck) :=
  bigSep_elim (Finset.mem_univ ck)

/-- The invariants and a position give the right to wait at a cell. -/
theorem wait_intro (K : Dev nD × Fin 21 → ℕ) (ck : Dev nD × Fin 21) :
    iprop(invs m ρ K ∗ atPos ER (kcell ck) 0 ∅ 0) ⊢ WaitR m ρ ck.1 ck.2 := by
  unfold invs WaitR
  iintro ⟨#HI, Hat⟩
  isplitr
  · iexists (K ck)
    iapply (inv_at m ρ K ck); iexact HI
  iexact Hat

/-- The invariants and a duty give the right to pay into a cell. -/
theorem pay_intro (K : Dev nD × Fin 21 → ℕ) (ck : Dev nD × Fin 21) :
    iprop(invs m ρ K ∗ (dutyTok ER (kcell ck) 0 () ∗ reached ER (kcell ck) 0)) ⊢ PayR m ρ ck.1 ck.2 := by
  unfold invs PayR
  iintro ⟨#HI, Ht, Hr⟩
  isplitr
  · iexists (K ck)
    iapply (inv_at m ρ K ck); iexact HI
  isplitl [Ht] <;> iassumption

/-- All devices' shares of the protocol, from every cell's position, token and record. -/
theorem ghosts_intro (K : Dev nD × Fin 21 → ℕ) :
    iprop(invs m ρ K ∗ (bigSep Finset.univ fun ck : Dev nD × Fin 21 => atPos ER (kcell ck) 0 ∅ 0)
        ∗ bigSep Finset.univ fun ck : Dev nD × Fin 21 => iprop(dutyTok ER (kcell ck) 0 () ∗ reached ER (kcell ck) 0))
      ⊢ bigSep Finset.univ (ghost m ρ) := by
  have hP : (bigSep Finset.univ fun c : Dev nD => bigSep Finset.univ fun k : Fin 21 => PayR m ρ (tgt k c) k)
      = bigSep Finset.univ fun ck : Dev nD × Fin 21 => PayR m ρ ck.1 ck.2 := by
    rw [bigSep_univ_equiv swp (fun ck : Dev nD × Fin 21 => PayR m ρ ck.1 ck.2), bigSep_univ_prod]; rfl
  have hW : (bigSep Finset.univ fun c : Dev nD => bigSep Finset.univ fun k : Fin 21 => WaitR m ρ c k)
      = bigSep Finset.univ fun ck : Dev nD × Fin 21 => WaitR m ρ ck.1 ck.2 := by rw [bigSep_univ_prod]
  unfold ghost
  rw [bigSep_sep' Finset.univ (fun c : Dev nD => bigSep Finset.univ fun k : Fin 21 => WaitR m ρ c k)
    (fun c : Dev nD => bigSep Finset.univ fun k : Fin 21 => PayR m ρ (tgt k c) k), hP, hW]
  iintro ⟨#HI, Hat, Hd⟩
  isplitl [Hat]
  · iapply (bigSep_with_persistent (R := invs m ρ K) fun ck _ => wait_intro m ρ K ck)
    isplitr; · iexact HI
    iexact Hat
  · iapply (bigSep_with_persistent (R := invs m ρ K) fun ck _ => pay_intro m ρ K ck)
    isplitr; · iexact HI
    iexact Hd

/-- What a device owns at launch holds its cells, all at zero. -/
theorem own_zeros (c : Dev nD) :
    iprop(Pipeline.ownSems0 (Ix := Unit) (Name := ℕ) (U := UU) (Lvl := ℕ) (Val := Elt F) (τ := τ) osem c ∗ unscopedSems0 c ∗ G m ρ c)
      ⊢ iprop(zeros (F := F) c ∗ G m ρ c) := by
  rw [sems_eq]
  iintro ⟨H1, H2, H3⟩
  isplitr [H3]
  · isplitl [H2] <;> iassumption
  iexact H3

/-- The step all devices take together: their semaphores at zero and the dealt states become the cells' invariants. -/
theorem glob : (bigSep Finset.univ fun c => iprop(Pipeline.ownSems0 (Ix := Unit) (Name := ℕ) (U := UU) (Lvl := ℕ) (Val := Elt F) (τ := τ) osem c ∗ unscopedSems0 c ∗ G m ρ c) : sProp (MT nD τ sig Unit (Elt F) ℕ UU ℕ))
    ⊢ |={Set.univ}=> bigSep Finset.univ (ghost m ρ) := by
  have h1 : (bigSep Finset.univ fun c => iprop(Pipeline.ownSems0 (Ix := Unit) (Name := ℕ) (U := UU) (Lvl := ℕ) (Val := Elt F) (τ := τ) osem c ∗ unscopedSems0 c ∗ G m ρ c) : sProp (MT nD τ sig Unit (Elt F) ℕ UU ℕ))
      ⊢ iprop((bigSep Finset.univ fun c => zeros (F := F) c) ∗ bigSep Finset.univ (G m ρ)) := by
    rw [← bigSep_sep']
    exact bigSep_mono fun c _ => own_zeros m ρ c
  refine h1.trans ?_
  unfold G zeros
  simp only [bigSep_sep']
  rw [← bigSep_univ_prod (fun ck : Dev nD × Fin 21 => (semVal (kcell ck) 0 : sProp (MT nD τ sig Unit (Elt F) ℕ UU ℕ))),
    ← bigSep_univ_prod (fun ck : Dev nD × Fin 21 => (roundState ER (Rd m ρ) (kcell ck) 0 : sProp (MT nD τ sig Unit (Elt F) ℕ UU ℕ))),
    ← bigSep_univ_prod (fun ck : Dev nD × Fin 21 => (atPos ER (kcell ck) 0 ∅ 0 : sProp (MT nD τ sig Unit (Elt F) ℕ UU ℕ))),
    ← bigSep_univ_prod (fun ck : Dev nD × Fin 21 => (reached ER (kcell ck) 0 : sProp (MT nD τ sig Unit (Elt F) ℕ UU ℕ))),
    ← bigSep_univ_prod (fun ck : Dev nD × Fin 21 => (dutyTok ER (kcell ck) 0 () : sProp (MT nD τ sig Unit (Elt F) ℕ UU ℕ)))]
  iintro ⟨Hv, Hst, Hat, Hr, Htok⟩
  imod (show iprop((bigSep Finset.univ fun ck : Dev nD × Fin 21 => semVal (kcell ck) 0) ∗ bigSep Finset.univ fun ck : Dev nD × Fin 21 => roundState ER (Rd m ρ) (kcell ck) 0)
      ⊢ (|={Set.univ}=> bigSep Finset.univ fun ck => iprop(∃ κ : ℕ, cellInv ER (Rd m ρ) κ (kcell ck)) : sProp (MT nD τ sig Unit (Elt F) ℕ UU ℕ)) from by
        rw [← bigSep_sep']
        exact (bigSep_mono fun ck _ => (Rounds.body_intro ER (Rd m ρ) (kcell ck)).trans inv_alloc).trans (bigSep_fupd _ _)) $$ [Hv Hst] with Hinv
  · isplitl [Hv] <;> iassumption
  imodintro
  ihave HK := (BI.bigSep_exists_pi Finset.univ (fun (ck : Dev nD × Fin 21) (κ : ℕ) => (cellInv ER (Rd m ρ) κ (kcell ck) : sProp (MT nD τ sig Unit (Elt F) ℕ UU ℕ)))) $$ Hinv
  icases HK with ⟨%K, HI⟩
  iapply (ghosts_intro m ρ K)
  isplitl [HI]; · unfold invs; iexact HI
  isplitl [Hat]; · iexact Hat
  rw [bigSep_sep']
  isplitl [Htok] <;> iassumption

/-! ### The launch credit -/

/-- Two cells agree exactly when device and number agree. -/
theorem kcell_eq_iff {a b : Dev nD} {k l : Fin 21} : kcell (a, k) = kcell (b, l) ↔ a = b ∧ k = l :=
  ⟨fun h => by have := kcell_injective h; exact ⟨congrArg Prod.fst this, congrArg Prod.snd this⟩, fun h => by rw [h.1, h.2]⟩

/-- What device `d` owes cell `k` of `c`: the cell's amount if it is `c`'s peer. -/
theorem owed_at (d c : Dev nD) {k : Fin 21} (hk : k ∈ S₀) : owed d S₀ (kcell (c, k)) () = if d = peer c then amt k else 0 := by
  rw [owed_apply]
  by_cases h : d = peer c
  · subst h
    rw [if_pos rfl, Finset.sum_eq_single_of_mem k hk fun k' _ hne => if_neg fun h' => hne (kcell_eq_iff.mp h').2.symm, peer_peer, if_pos rfl]
  · rw [if_neg h]
    exact Finset.sum_eq_zero fun k' _ => if_neg fun h' => h (by rw [(kcell_eq_iff.mp h').1, peer_peer])

/-- The credit given at launch to an owed cell is the amount of its one payment. -/
theorem launch_at (c : Dev nD) {k : Fin 21} (hk : k ∈ S₀) :
    tallyOn (kcell (c, k)) (launchCredit (Pipeline.owing fun d => owed d S₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c hk, Finset.sum_ite_eq' Finset.univ (peer c) fun _ => amt k,
    if_pos (Finset.mem_univ _)]

/-- The credit given at launch holds that of the seven cells which the partner pays. -/
theorem creds (c : Dev nD) : (Pipeline.launchCred (fun d => owed d S₀) c : sProp (MT nD τ sig Unit (Elt F) ℕ UU ℕ)) ⊢ crs c := by
  unfold Pipeline.launchCred
  have h (Φ : SemLoc sig → sProp (MT nD τ sig Unit (Elt F) ℕ UU ℕ)) : bigSep (S₀.map ⟨csem, csem_injective⟩) Φ = bigSep S₀ fun k => Φ (csem k) := bigSep_map _
  have h2 : (bigSep S₀ fun k => (cred (tallyOn (kcell (c, k)) (launchCredit (Pipeline.owing fun d => owed d S₀) 0 (kcell (c, k)))) : sProp (MT nD τ sig Unit (Elt F) ℕ UU ℕ))) = crs c := by
    rw [bigSep_congr (Ψ := fun k => (cred (tallyAt (kcell (c, k)) () (amt k)) : sProp (MT nD τ sig Unit (Elt F) ℕ UU ℕ))) fun k hk => congrArg _ (launch_at c hk),
      bigSep_eq_bigSepL_of_eq [0, 7, 8, 9, 10, 11, 12] (by decide) (by decide)]
    rfl
  exact (bigSep_subset (Finset.subset_univ (S₀.map ⟨csem, csem_injective⟩))).trans (Entails.of_eq ((h _).trans h2))

/-! ### The theorem's side conditions -/

/-- The state at launch gives the state before the body. -/
theorem start_intro (c : Dev nD) :
    iprop(Pipeline.unscopedRestP Pipeline.Prefetch.none cfg0.spec c (fun b => m ((c : Thread nD τ).loc b)) ∗ levAts L lv
        ∗ Pipeline.launchCred (fun d => owed d S₀) c ∗ prngReg c (ρ c) ∗ ghost m ρ c)
      ⊢ |={Set.univ}=> iprop(start m ρ c ∗ emp) := by
  rw [Pipeline.unscopedRestP_none, show cfg0.spec = spec0 from rfl, unscopedRest0_eq]
  iintro ⟨Hr, Hlev, Hcr, -, HG⟩
  ihave Hc := (creds (F := F) c) $$ Hcr
  imodintro
  unfold start wts
  isplitl
  · isplitl [HG]; · iexact HG
    isplitl [Hc]; · iexact Hc
    isplitl [Hlev]; · iexact Hlev
    iexact Hr
  · iempintro

/-- The buffers scoped to the call, one by one. -/
theorem scr_eq (c : Dev nD) : (Pipeline.scopedRest (Ix := Unit) (Name := ℕ) (U := UU) (Lvl := ℕ) (Val := Elt F) cfg0.spec c : sProp (MT nD τ sig Unit (Elt F) ℕ UU ℕ)) = scr c :=
  scopedRest0_eq c

/-- The state before the body with the scoped buffers is the first state of the run. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

/-- The last state of the run gives back the semaphores, the weights and the scoped buffers. -/
theorem phi1_exit (c : Dev nD) :
    (dats m ρ 0 c).Φ (Fin.last cfg0.N) ⊢ iprop((unscopedSems0 c ∗ wts m c) ∗ Pipeline.ownSems0 osem c ∗ Pipeline.scopedRest cfg0.spec c) := by
  rw [show (dats m ρ 0 c).Φ (Fin.last cfg0.N) = Φ₁ m c from rfl, scr_eq]
  unfold Φ₁
  rw [sems_eq]
  iintro ⟨Hr, ⟨Hu, Ho⟩, Hw⟩
  isplitl [Hu Hw]
  · isplitl [Hu] <;> iassumption
  isplitl [Ho] <;> iassumption

/-- The levels allow every wait of the pipeline. -/
theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t => by
    have hz : ∀ u, lv ((c : Thread nD τ), SemLoc.dma ((cfg0.win w).sem s)) u = 0 := fun u => by
      show (match idx (SemLoc.dma ((cfg0.win w).sem s)) with | some k => lev k | none => 0) = 0
      revert s; revert w; decide +kernel
    rcases t with ⟨_ | _, ht⟩
    · exact mayWait c _ 0 hz S₀ (by decide)
    · refine (mayWait c _ 0 hz ∅ (fun k hk => absurd hk (Finset.notMem_empty k))).trans (Entails.of_eq ?_)
      rw [owed_empty]; rfl

/-! ### The run -/

def finalA (c : Dev nD) (w : Fin cfg0.W) : Buf (Elt F) ((cfg0.win w).arr.view.loc (c : Thread nD τ)) := (dats m ρ 0 c).arrAt w cfg0.N

/-- The state at the end: the windows' arrays and the weights. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

/-- The weights read off at the end. -/
theorem wts_read (c : Dev nD) (s' : Phys nD τ sig (Elt F)) :
    iprop(wts m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp (MT nD τ sig Unit (Elt F) ℕ UU ℕ)) := by
  unfold wts
  iintro ⟨⟨H2, H3⟩, HSI⟩
  icombine HSI H2 gives %h2
  icombine HSI H3 gives %h3
  isplitr
  · ipureintro
    exact ⟨funext fun i => h2 i (Finset.mem_univ i), funext fun i => h3 i (Finset.mem_univ i)⟩
  iexact HSI

set_option maxRecDepth 8000 in
/-- For any float values, from any memory with zero counters: every weakly fair execution of @main terminates, and
    every final state has each device's result array at the computed contents, the arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d S₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ wts m c)) (Z := fun _ => iprop(emp))
    (hX := start_intro m ρ) (hin := phi0_intro m ρ) (hout := phi1_exit m ρ)
    (QY := fun c s => (s.mem ((c : Thread nD τ).loc main_arg2) = m ((c : Thread nD τ).loc main_arg2)
      ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨Hu, Hw⟩, -, HSI⟩
      ihave H := (wts_read m c s') $$ [Hw HSI]
      · isplitl [Hw] <;> iassumption
      icases H with ⟨%hw, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hw, hu⟩
      iexact HSI)
    (hQ := fun _ h hs => ⟨fun c => ⟨fun w => (h c).1 w, (h c).2.2.1⟩, sem_eq_zero hs fun c => (h c).2.2.2⟩)

/-- The arrays of the two staged arguments end as they were; -/
theorem finalA_0 (c : Dev nD) : finalA m ρ c (0 : Fin 3) = m ((c : Thread nD τ).loc main_arg0) :=
  (dats (F := F) m ρ 0 c).arrAt_in (0 : Fin 3) rfl _
/-- The assignments are unchanged by the run. -/
theorem finalA_1 (c : Dev nD) : finalA m ρ c (1 : Fin 3) = m ((c : Thread nD τ).loc main_arg1) :=
  (dats (F := F) m ρ 0 c).arrAt_in (1 : Fin 3) rfl _

end Cert.KernelIdeal.Moe

end
-- ==== Proof.Frames.lean ====
module

public import proofs.«01_k».proof.Defs
public import proofs.«01_k».proof.Proof.Launch
public import proofs.«01_k».proof.Proof.Gen.Kernel
public import proofs.«01_k».proof.Proof.Gen.Kernel.Launch
public import proofs.«01_k».proof.Proof.Gen.ReferenceIdeal.Run
public import proofs.«01_k».proof.Proof.Gen.Pre_fits_KernelIdeal
public import proofs.«01_k».proof.Proof.Gen.Pre_fits_ReferenceIdeal
public import Idealize.ShloMosaic.Lib.Quiescent

@[expose] public section

noncomputable section

namespace Cert.KernelIdeal.Moe

open Idealize.ShloMosaic Idealize.ShloMosaic.TcCoe Idealize.SL.Sem

/-! ## The two printings of the kernel are one program -/

section
variable {F : FTy → Type} [FloatOps F]

set_option maxRecDepth 65536 in
/-- The body of the kernel is the same program in both printings: on the one label there is. -/
theorem defs_eq_tc (l : Cert.Kernel.Λ₀.Label) (x : Cert.Kernel.Λ₀.Args l) :
    (Cert.Kernel.defs₀ (F := F)) .tc l x = (Cert.KernelIdeal.defs₀ (F := F)) .tc l x := by
  obtain ⟨_ | _, h⟩ := l
  · rfl
  · exact absurd h (Nat.not_lt.2 (Nat.le_add_left _ _))

/-- The body table is the same in both printings, -/
theorem defs_eq : (Cert.Kernel.defs₀ (F := F)) = (Cert.KernelIdeal.defs₀ (F := F)) := by
  funext p l x
  cases p with
  | tc => exact defs_eq_tc l x
  | scScalar => rfl
  | scVector => rfl

set_option maxRecDepth 65536 in
/-- so that the run of one is the run of the other. -/
theorem run_kernel (m : (ℓ : Loc nD τ sig) → Buf (Elt F) ℓ) (ρ : Dev nD → PrngReg) :
    θ_run Cert.Kernel.defs (onTc (τ := Cert.Kernel.τ) (Cert.Kernel.main (F := F))) (s₀ m ρ)
      (fun r => QC m ρ r ∧ r.2.sem = fun _ => 0) := by
  have h := run_main (F := F) m ρ
  unfold defs at h
  rw [← defs_eq] at h
  exact h

/-- What the run says of the arguments: they end as they were. -/
theorem args_kept (m : (ℓ : Loc nD τ sig) → Buf (Elt F) ℓ) (ρ : Dev nD → PrngReg) (r : PUnit × MemSt nD τ sig (Elt F))
    (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 (0 : Fin 3)).trans (finalA_0 m ρ c), ((h c).1 (1 : Fin 3)).trans (finalA_1 m ρ c), (h c).2.1, (h c).2.2⟩
end

/-! ## The frames -/

set_option maxRecDepth 65536 in
/-- The kernel at the machine's floats runs, keeps its arguments and leaves every counter at zero. -/
theorem frame_kernel : Cert.quiescent_Kernel := fun m g _ =>
  (θ_run _ _ _).mono (fun r h => ⟨fun c => args_kept m g r h.1 c, h.2⟩) (run_kernel (F := Bits) m g)

/-- The kernel at the ideal floats runs, keeps its arguments and leaves every counter at zero; -/
theorem frame_ideal : Cert.quiescent_KernelIdeal := fun m g _ =>
  (θ_run _ _ _).mono (fun r h => ⟨fun c => args_kept m g r h.1 c, h.2⟩) (run_main (F := Ideal) m g)

/-- under the precondition too. -/
theorem frame_ideal_fits : Cert.quiescent_KernelIdeal_pre_fits_KernelIdeal := fun m g _ => frame_ideal m g trivial

/-- The reference runs, keeps its arguments and leaves every counter at zero; -/
theorem frame_reference : Cert.quiescent_ReferenceIdeal := fun m g _ =>
  (θ_run _ _ _).mono (fun r h => ⟨fun c => (h c).2, sem_eq_zero_of_no_sems rfl r.2⟩) (Cert.ReferenceIdeal.Value.run (F := Ideal) m g)

/-- under the precondition too. -/
theorem frame_reference_fits : Cert.quiescent_ReferenceIdeal_pre_fits_ReferenceIdeal := fun m g _ => frame_reference m g trivial

end Cert.KernelIdeal.Moe

end
-- ==== Proof.Slots.lean ====
/-
The places the tokens of a device take in the dispatched blocks, counted in naturals: the rank of a token among the
tokens of its expert, its slot, and that no two tokens sent the same way share a slot.
-/
module

public import Idealize.ShloMosaic.Lib.Pointwise

@[expose] public section

namespace Cert.KernelIdeal.Moe

/-- Each of the 1024 tokens names one of four experts, and no expert is named by more than 320 of them. -/
structure Fits (A : Fin 1024 → ℕ) : Prop where
  lt : ∀ t, A t < 4
  room : ∀ e, e < 4 → (Finset.univ.filter fun t => A t = e).card ≤ 320

variable (A : Fin 1024 → ℕ)

/-- The tokens of the same expert up to and including `t`. -/
def upTo (t : Fin 1024) : Finset (Fin 1024) := Finset.univ.filter fun s => s ≤ t ∧ A s = A t
/-- How many tokens of the same expert come before `t`. -/
def rank (t : Fin 1024) : ℕ := (upTo A t).card - 1
/-- The row `t` takes in the block it is dispatched to. -/
def slot (t : Fin 1024) : ℕ := A t % 2 * 320 + rank A t

/-- A token counts itself. -/
theorem mem_upTo (t : Fin 1024) : t ∈ upTo A t := by simp [upTo]
/-- So the count is positive. -/
theorem upTo_pos (t : Fin 1024) : 0 < (upTo A t).card := Finset.card_pos.mpr ⟨t, mem_upTo A t⟩
/-- The count is one more than the rank. -/
theorem card_upTo (t : Fin 1024) : (upTo A t).card = rank A t + 1 := by
  have := upTo_pos A t; unfold rank; omega

variable {A}

/-- With room for every expert the rank is below the room. -/
theorem rank_lt (h : Fits A) (t : Fin 1024) : rank A t < 320 := by
  have h1 : (upTo A t).card ≤ (Finset.univ.filter fun s => A s = A t).card :=
    Finset.card_le_card fun s hs => by simp only [upTo, Finset.mem_filter, Finset.mem_univ, true_and] at hs ⊢; exact hs.2
  have h2 := h.room (A t) (h.lt t)
  have h3 := upTo_pos A t
  unfold rank; omega

/-- Of two tokens of one expert the later has the larger rank. -/
theorem rank_lt_rank {s t : Fin 1024} (hA : A s = A t) (hst : s < t) : rank A s < rank A t := by
  have h1 : (upTo A s).card < (upTo A t).card := by
    refine Finset.card_lt_card ⟨fun r hr => ?_, fun hc => ?_⟩
    · simp only [upTo, Finset.mem_filter, Finset.mem_univ, true_and] at hr ⊢
      exact ⟨hr.1.trans hst.le, hr.2.trans hA⟩
    · have := hc (mem_upTo A t)
      simp only [upTo, Finset.mem_filter, Finset.mem_univ, true_and] at this
      exact absurd this.1 (not_le.mpr hst)
  have := card_upTo A s; have := card_upTo A t; omega

/-- A rank names one token of an expert. -/
theorem rank_inj {s t : Fin 1024} (hA : A s = A t) (hr : rank A s = rank A t) : s = t := by
  rcases lt_trichotomy s t with h | h | h
  · have := rank_lt_rank hA h; omega
  · exact h
  · have := rank_lt_rank hA.symm h; omega

/-- A slot is a row of the block. -/
theorem slot_lt (h : Fits A) (t : Fin 1024) : slot A t < 640 := by
  have := rank_lt h t; unfold slot; omega

/-- A slot names one of the tokens whose experts live on one device. -/
theorem slot_inj (h : Fits A) {s t : Fin 1024} (hA : A s / 2 = A t / 2) (hs : slot A s = slot A t) : s = t := by
  have h1 := rank_lt h s; have h2 := rank_lt h t
  unfold slot at hs
  have : A s = A t := by omega
  exact rank_inj this (by omega)

/-- The row of a dispatch matrix that is one: the token's slot if it goes that way, else a row outside the block. -/
def pick (A : Fin 1024 → ℕ) (p : ℕ) (t : Fin 1024) : ℕ := if A t / 2 = p then slot A t else 640

/-- Multiplying by a dispatch matrix puts a token's value at its slot. -/
theorem pack_sum (h : Fits A) (p : ℕ) (x : Fin 1024 → EReal) (t : Fin 1024) (ht : A t / 2 = p) (j : ℕ) (hj : j = slot A t) :
    (∑ s : Fin 1024, (if j = pick A p s then (1 : EReal) else 0) * x s) = x t := by
  rw [Finset.sum_eq_single t]
  · rw [if_pos (by unfold pick; rw [if_pos ht, hj]), one_mul]
  · intro s _ hst
    rw [if_neg, zero_mul]
    intro hc
    have hlt := slot_lt h t
    unfold pick at hc
    split at hc
    · next hs => exact hst (slot_inj h (hs.trans ht.symm) (hc.symm.trans hj))
    · omega
  · intro hc; exact absurd (Finset.mem_univ t) hc

/-- Multiplying by one row of a dispatch matrix, half a block at a time, takes the row the token picked. -/
theorem unpack_sum (n : ℕ) (y z : Fin 320 → EReal) :
    (∑ j : Fin 320, (if (j : ℕ) = n then (1 : EReal) else 0) * y j) + (∑ j : Fin 320, (if 320 + (j : ℕ) = n then (1 : EReal) else 0) * z j)
      = if h : n < 320 then y ⟨n, h⟩ else if h : n - 320 < 320 then z ⟨n - 320, h⟩ else 0 := by
  have aux : ∀ (k : ℕ) (w : Fin 320 → EReal), (∑ j : Fin 320, (if (j : ℕ) = k then (1 : EReal) else 0) * w j) = if h : k < 320 then w ⟨k, h⟩ else 0 := by
    intro k w
    by_cases hk : k < 320
    · rw [dif_pos hk, Finset.sum_eq_single ⟨k, hk⟩]
      · rw [if_pos rfl, one_mul]
      · intro j _ hj
        rw [if_neg fun hc => hj (Fin.ext hc), zero_mul]
      · intro hc; exact absurd (Finset.mem_univ _) hc
    · rw [dif_neg hk]
      refine Finset.sum_eq_zero fun j _ => ?_
      rw [if_neg (by have := j.isLt; omega), zero_mul]
  rw [aux]
  by_cases hn : n < 320
  · rw [dif_pos hn, dif_pos hn, Finset.sum_eq_zero, add_zero]
    intro j _
    rw [if_neg (by omega), zero_mul]
  · rw [dif_neg hn, dif_neg hn, zero_add, ← aux]
    refine Finset.sum_congr rfl fun j _ => ?_
    have : (320 + (j : ℕ) = n) ↔ ((j : ℕ) = n - 320) := by omega
    simp only [this]

end Cert.KernelIdeal.Moe
-- ==== Proof.Dispatch.lean ====
/-
The dispatch matrices of the kernel over the extended reals: entry `(t, j)` is one where `j` is the row token `t`
picked, and zero elsewhere.
-/
module

public import proofs.«01_k».proof.Proof.Sched
public import proofs.«01_k».proof.Proof.Slots
public import Idealize.ShloMosaic.Lib.Pointwise

@[expose] public section

noncomputable section

namespace Cert.KernelIdeal.Moe

open Cert.KernelIdeal.Gen Idealize.ShloMosaic
open scoped BigOperators

/-! ## Words -/

/-- Words of two numbers below the word bound agree exactly when the numbers do. -/
theorem ofNat_inj {a b : ℕ} (ha : a < 2 ^ 32) (hb : b < 2 ^ 32) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt ha, Nat.mod_eq_of_lt hb] at this

/-- A one-bit word of a truth value, read as a number. -/
theorem bit_real (p : Prop) [Decidable p] (b : BitVec 1) (hb : b = if p then 1#1 else 0#1) :
    FloatOps.sitofp (F := Ideal) FTy.f32 (BitVec.setWidth 32 b) = if p then (1 : EReal) else 0 := by
  subst hb
  show ((((BitVec.setWidth 32 (if p then 1#1 else 0#1)).toInt : ℝ)) : EReal) = _
  by_cases hp : p <;> simp [hp]

/-- The indicator of equal words. -/
theorem ind_eq (x y : BitVec 32) :
    FloatOps.sitofp (F := Ideal) FTy.f32 (BitVec.setWidth 32 (IntOp.cmpi .eq x y)) = if x = y then (1 : EReal) else 0 := by
  refine bit_real _ _ ?_
  by_cases h : x = y
  · simp [IntOp.cmpi, h]
  · rw [if_neg h]
    show BitVec.ofBool (x == y) = 0#1
    rw [beq_eq_false_iff_ne.mpr h]; rfl

/-- The indicator of ordered small words. -/
theorem ind_sge (t s : Fin 1024) :
    FloatOps.sitofp (F := Ideal) FTy.f32 (BitVec.setWidth 32 (IntOp.cmpi .sge (BitVec.ofNat 32 t) (BitVec.ofNat 32 s))) = if s ≤ t then (1 : EReal) else 0 := by
  refine bit_real _ _ ?_
  have ht := t.isLt; have hs := s.isLt
  have h1 : (BitVec.ofNat 32 t).toInt = (t : ℤ) := by
    rw [BitVec.toInt_eq_toNat_of_lt (by rw [BitVec.toNat_ofNat]; omega), BitVec.toNat_ofNat]; omega
  have h2 : (BitVec.ofNat 32 s).toInt = (s : ℤ) := by
    rw [BitVec.toInt_eq_toNat_of_lt (by rw [BitVec.toNat_ofNat]; omega), BitVec.toNat_ofNat]; omega
  by_cases h : s ≤ t
  · have : (s : ℕ) ≤ t := h
    simp [IntOp.cmpi, BitVec.sle, h1, h2, h]
  · have : ¬ (s : ℕ) ≤ t := h
    simp [IntOp.cmpi, BitVec.sle, h1, h2, h]

/-- A natural number below the signed bound, rounded to a word, is its word. -/
theorem fptosi_nat (r : ℕ) (hr : r < 2 ^ 31) : FloatOps.fptosi (F := Ideal) (φ := FTy.f32) 32 ((r : ℝ) : EReal) = BitVec.ofNat 32 r := by
  show Idealize.ShloMosaic.Ideal.fptosi 32 _ = _
  rw [Idealize.ShloMosaic.Ideal.fptosi, Idealize.ShloMosaic.Ideal.toIntClamped_coe, if_pos (Nat.cast_nonneg r), Int.floor_natCast]
  have : max (-((2 ^ (32 - 1) : ℕ) : ℤ)) (min (((2 ^ (32 - 1) : ℕ) : ℤ) - 1) (r : ℤ)) = (r : ℤ) := by
    norm_num at hr ⊢; omega
  rw [this]
  exact BitVec.ofInt_natCast 32 r

/-- The expert's count, less the token itself, is the rank. -/
theorem count_real (A : Fin 1024 → ℕ) (t : Fin 1024) :
    (∑ s : Fin 1024, (if s ≤ t then (1 : EReal) else 0) * (if A s = A t then (1 : EReal) else 0)) - 1 = ((rank A t : ℝ) : EReal) := by
  have h : ∀ s : Fin 1024, (if s ≤ t then (1 : EReal) else 0) * (if A s = A t then (1 : EReal) else 0) = if s ≤ t ∧ A s = A t then 1 else 0 := by
    intro s; by_cases h1 : s ≤ t <;> by_cases h2 : A s = A t <;> simp [h1, h2]
  rw [Finset.sum_congr rfl fun s _ => h s, Finset.sum_boole]
  have h2 : (Finset.univ.filter fun s : Fin 1024 => s ≤ t ∧ A s = A t).card = rank A t + 1 := card_upTo A t
  rw [h2]
  have h3 : (((rank A t + 1 : ℕ) : ℝ) : EReal) - ((1 : ℝ) : EReal) = ((rank A t : ℝ) : EReal) := by
    rw [← EReal.coe_sub]; congr 1; push_cast; ring
  rw [EReal.coe_natCast, EReal.coe_one] at h3
  exact h3

/-- A sum over the experts that keeps the token's own. -/
theorem sum_own (A : ℕ) (hA : A < 4) (x : Fin 4 → EReal) (z : EReal) (hz : x ⟨A, hA⟩ = z) :
    (∑ e : Fin 4, (if BitVec.ofNat 32 A = BitVec.ofNat 32 e then (1 : EReal) else 0) * x e) = z := by
  rw [Finset.sum_eq_single ⟨A, hA⟩]
  · rw [if_pos rfl, one_mul, hz]
  · intro e _ he
    have := e.isLt
    rw [if_neg, zero_mul]
    rw [ofNat_inj (by omega) (by omega)]
    exact fun hc => he (Fin.ext hc.symm)
  · intro hc; exact absurd (Finset.mem_univ _) hc

section
variable (a : Vec Ideal S1024 .i32) (A : Fin 1024 → ℕ) (ha : ∀ t, a (ix1 t) = BitVec.ofNat 32 (A t)) (hA : Fits A)
include ha hA

/-- The rank the kernel counts. -/
theorem rank_word (t : Fin 1024) (u : Fin 1) : k0_pay3 (F := Ideal) a (ix2 t u) = BitVec.ofNat 32 (rank A t) := by
  pointwise [k0_pay3, k0_pay2]
  simp only [ha, ind_eq, ind_sge]
  have h : ∀ s, A s < 2 ^ 32 := fun s => lt_trans (hA.lt s) (by norm_num)
  rw [sum_own (A t) (hA.lt t) _ ((rank A t : ℝ) : EReal), fptosi_nat]
  · have := rank_lt hA t; omega
  · rw [← count_real A t]
    simp only [ofNat_inj (h _) (h _)]

/-- The parity of the expert. -/
theorem parity_word (t : Fin 1024) (u : Fin 1) : k0_pay4 (F := Ideal) a (ix2 t u) = BitVec.ofNat 32 (A t % 2) := by
  pointwise [k0_pay4, k0_pay2]
  rw [ha]
  have h := hA.lt t
  generalize A t = n at h
  interval_cases n <;> decide

/-- Whether the expert lives on the device of middle coordinate `p`. -/
theorem side_word (p : ℕ) (hp : p < 2) (t : Fin 1024) (u : Fin 1) :
    k0_pay6 (BitVec.ofNat 32 p) (k0_pay2 (F := Ideal) a) (ix2 t u) = if A t / 2 = p then 1#1 else 0#1 := by
  pointwise [k0_pay6, k0_pay2]
  rw [ha]
  have h := hA.lt t
  generalize A t = n at h
  interval_cases n <;> interval_cases p <;> decide

/-- The slot as a word. -/
theorem slot_word (t : Fin 1024) (u : Fin 1) :
    k0_pay5 (k0_pay3 (F := Ideal) a) (k0_pay4 (F := Ideal) a) 320#32 (ix2 t u) = BitVec.ofNat 32 (slot A t) := by
  pointwise [k0_pay5]
  rw [rank_word a A ha hA, parity_word a A ha hA]
  show BitVec.ofNat 32 (A t % 2) * BitVec.ofNat 32 320 + BitVec.ofNat 32 (rank A t) = _
  rw [← BitVec.ofNat_mul, ← BitVec.ofNat_add]; rfl

/-- The dispatch matrix of the device's own tokens. -/
theorem selL_apply (p : ℕ) (hp : p < 2) (t : Fin 1024) (j : Fin 640) :
    k0_pay8 (F := Ideal) (BitVec.ofNat 32 p) (k0_pay2 (F := Ideal) a) (k0_pay3 (F := Ideal) a) (k0_pay4 (F := Ideal) a) 320#32 (ix2 t j)
      = if (j : ℕ) = pick A p t then (1 : EReal) else 0 := by
  pointwise [k0_pay8]
  rw [side_word a A ha hA p hp, slot_word a A ha hA, ind_eq]
  have hj := j.isLt; have hs := slot_lt hA t
  have h : (BitVec.ofNat 32 j = Scalar.select (if A t / 2 = p then 1#1 else 0#1) (BitVec.ofNat 32 (slot A t)) 640#32) ↔ (j : ℕ) = pick A p t := by
    unfold pick
    by_cases h : A t / 2 = p
    · rw [if_pos h, if_pos h]; exact ofNat_inj (by omega) (by omega)
    · rw [if_neg h, if_neg h]; exact ofNat_inj (by omega) (by omega)
  simp only [h]

/-- The dispatch matrix of the tokens the peer owns. -/
theorem selS_apply (p : ℕ) (hp : p < 2) (t : Fin 1024) (j : Fin 640) :
    k0_pay7 (F := Ideal) (BitVec.ofNat 32 p) (k0_pay2 (F := Ideal) a) (k0_pay3 (F := Ideal) a) (k0_pay4 (F := Ideal) a) 320#32 (ix2 t j)
      = if (j : ℕ) = pick A (1 - p) t then (1 : EReal) else 0 := by
  pointwise [k0_pay7]
  rw [side_word a A ha hA p hp, slot_word a A ha hA, ind_eq]
  have hj := j.isLt; have hs := slot_lt hA t; have ht := hA.lt t
  have h : (BitVec.ofNat 32 j = Scalar.select (if A t / 2 = p then 1#1 else 0#1) 640#32 (BitVec.ofNat 32 (slot A t))) ↔ (j : ℕ) = pick A (1 - p) t := by
    unfold pick
    by_cases h : A t / 2 = p
    · rw [if_pos h, if_neg (show ¬ A t / 2 = 1 - p by omega)]; exact ofNat_inj (by omega) (by omega)
    · rw [if_neg h, if_pos (show A t / 2 = 1 - p by omega)]; exact ofNat_inj (by omega) (by omega)
  simp only [h]
end

end Cert.KernelIdeal.Moe
-- ==== Proof.Experts.lean ====
/-
What the kernel leaves in its result over the extended reals: row `t` is the feed-forward network of the expert token
`t` names, applied to the token, with the weights of the device that holds the expert.
-/
module

public import proofs.«01_k».proof.Proof.Dispatch

@[expose] public section

noncomputable section

namespace Cert.KernelIdeal.Moe

open Cert.KernelIdeal.Gen Idealize.ShloMosaic Idealize.ShloMosaic.TcCoe
open scoped BigOperators

/-- The feed-forward network of one expert: two matrix products with the positive part between them. -/
def ffn (a : Fin 1024 → Fin 2048 → EReal) (b : Fin 2048 → Fin 1024 → EReal) (x : Fin 1024 → EReal) (d : Fin 1024) : EReal :=
  ∑ f : Fin 2048, max (∑ k : Fin 1024, x k * a k f) 0 * b f d

/-! ## The network in the kernel's pieces -/

section
variable (X : FVec Ideal S640x1024 .bf16) (Y : Vec Ideal S160x1024 .bf16) (W : Vec Ideal S1x1024x2048 .bf16) (V : Vec Ideal S1x2048x1024 .bf16)

/-- One half of the device's own block through one expert. -/
theorem own_first (j : Fin 320) (d : Fin 1024) : k0_pay18 (k0_pay17 X W) V (ix2 j d)
    = ffn (fun k f => W (ix3 0 k f)) (fun f d => V (ix3 0 f d)) (fun k => X (ix2 ⟨j, by omega⟩ k)) d := by
  pointwise [k0_pay18, k0_pay17]
  rfl
/-- The first quarter of the peer's block. -/
theorem quarter0 (j : Fin 160) (d : Fin 1024) : k0_pay20 (k0_pay19 Y W) V (ix2 j d)
    = ffn (fun k f => W (ix3 0 k f)) (fun f d => V (ix3 0 f d)) (fun k => Y (ix2 j k)) d := by
  pointwise [k0_pay20, k0_pay19]
  rfl
/-- The second quarter. -/
theorem quarter1 (j : Fin 160) (d : Fin 1024) : k0_pay22 (k0_pay21 Y W V) (ix2 j d)
    = ffn (fun k f => W (ix3 0 k f)) (fun f d => V (ix3 0 f d)) (fun k => Y (ix2 j k)) d := by
  pointwise [k0_pay22, k0_pay21]
  rfl
/-- The third quarter. -/
theorem quarter2 (j : Fin 160) (d : Fin 1024) : k0_pay31 Y (k0_pay30 W) (constant S160x2048 .f32 0x00000000#32) V (ix2 j d)
    = ffn (fun k f => W (ix3 0 k f)) (fun f d => V (ix3 0 f d)) (fun k => Y (ix2 j k)) d := by
  pointwise [k0_pay31, k0_pay30]
  rfl
/-- The fourth quarter. -/
theorem quarter3 (j : Fin 160) (d : Fin 1024) : k0_pay33 (k0_pay32 Y W) V (ix2 j d)
    = ffn (fun k f => W (ix3 0 k f)) (fun f d => V (ix3 0 f d)) (fun k => Y (ix2 j k)) d := by
  pointwise [k0_pay33, k0_pay32]
  rfl
/-- The local part of the result: the rows the token picked in the two halves of the device's own block. -/
theorem own_out (S : FVec Ideal S1024x640 .bf16) (R : FVec Ideal S320x1024 .bf16) (t d : Fin 1024) :
    k0_pay29 S R (k0_pay28 X W) V (ix2 t d)
    = (∑ j : Fin 320, S (ix2 t ⟨j, by omega⟩) * R (ix2 j d))
      + ∑ j : Fin 320, S (ix2 t ⟨320 + j, by omega⟩)
          * ffn (fun k f => W (ix3 0 k f)) (fun f d => V (ix3 0 f d)) (fun k => X (ix2 ⟨320 + j, by omega⟩ k)) d := by
  pointwise [k0_pay29, k0_pay28]
  rfl
/-- The returned part of the result: the rows the token picked in the two halves of the returned block. -/
theorem back_out (S : FVec Ideal S1024x640 .bf16) (O : Vec Ideal S1024x1024 .f32) (R R' : Vec Ideal S320x1024 .bf16) (t d : Fin 1024) :
    k0_pay1 S (k0_pay34 S O R) R' (ix2 t d)
    = (O (ix2 t d) + ∑ j : Fin 320, S (ix2 t ⟨j, by omega⟩) * R (ix2 j d)) + ∑ j : Fin 320, S (ix2 t ⟨320 + j, by omega⟩) * R' (ix2 j d) := by
  pointwise [k0_pay1, k0_pay34]
/-- The dispatched block of the device's own tokens. -/
theorem pack_own (S : FVec Ideal S1024x640 .bf16) (Z : Vec Ideal S1024x1024 .f32) (j : Fin 640) (d : Fin 1024) :
    k0_pay12 S (k0_pay9 Z) (ix2 j d) = ∑ t : Fin 1024, S (ix2 t j) * Z (ix2 t d) := by
  pointwise [k0_pay12, k0_pay9]
/-- The dispatched block of the peer's tokens. -/
theorem pack_peer (y : BitVec 32) (a b e : IVec S1024x1 32) (Z : Vec Ideal S1024x1024 .f32) (j : Fin 640) (d : Fin 1024) :
    k0_pay11 (k0_pay10 (F := Ideal) y a b e 320#32 Z) (ix2 j d) = ∑ t : Fin 1024, k0_pay7 (F := Ideal) y a b e 320#32 (ix2 t j) * Z (ix2 t d) := by
  pointwise [k0_pay11, k0_pay10, k0_pay9]
end

/-! ## The devices -/

/-- The middle mesh coordinate. -/
def mid (c : Dev nD) : ℕ := c.val / 4 % 2
/-- The middle coordinate of a device is 0 or 1. -/
theorem mid_lt (c : Dev nD) : mid c < 2 := Nat.mod_lt _ (by decide)
/-- The kernel computes it. -/
theorem y5_eq (c : Dev nD) : y5 c = BitVec.ofNat 32 (mid c) := by revert c; decide
/-- The peer has the other one. -/
theorem mid_peer (c : Dev nD) : mid (peer c) = 1 - mid c := by revert c; decide

variable (m : (ℓ : Loc nD τ sig) → Buf (Elt Ideal) ℓ) (ρ : Dev nD → PrngReg)

/-- The weights of expert `i` of device `c`. -/
def wa (c : Dev nD) (i : Fin 2) (k : Fin 1024) (f : Fin 2048) : EReal := w1 m c (ix3 i k f)
def wb (c : Dev nD) (i : Fin 2) (f : Fin 2048) (d : Fin 1024) : EReal := w2 m c (ix3 i f d)

/-- What the body reads of the first weights for its first expert is that expert's matrix. -/
theorem W10_eq (c : Dev nD) : (fun k f => W10 m c (ix3 0 k f)) = wa m c 0 := by
  funext k f
  show w1 m c _ = w1 m c _
  congr 1; funext a; fin_cases a <;> exact Fin.ext (by simp [ix3])
/-- What the body reads of the first weights for its second expert is that expert's matrix. -/
theorem W11_eq (c : Dev nD) : (fun k f => W11 m c (ix3 0 k f)) = wa m c 1 := by
  funext k f
  show w1 m c _ = w1 m c _
  congr 1; funext a; fin_cases a <;> exact Fin.ext (by simp [ix3])
/-- What the body reads of the second weights for its first expert is that expert's matrix. -/
theorem W20_eq (c : Dev nD) : (fun k f => W20 m c (ix3 0 k f)) = wb m c 0 := by
  funext k f
  show w2 m c _ = w2 m c _
  congr 1; funext a; fin_cases a <;> exact Fin.ext (by simp [ix3])
/-- What the body reads of the second weights for its second expert is that expert's matrix. -/
theorem W21_eq (c : Dev nD) : (fun k f => W21 m c (ix3 0 k f)) = wb m c 1 := by
  funext k f
  show w2 m c _ = w2 m c _
  congr 1; funext a; fin_cases a <;> exact Fin.ext (by simp [ix3])

/-- A row of a quarter is a row of the block it was cut from. -/
theorem XQ_row (c : Dev nD) (o : ℕ) (ho) (j : Fin 160) (r : Fin 640) (hr : r.val = o + j) (k : Fin 1024) :
    XQ m ρ c o ho (ix2 j k) = XS m ρ (peer c) (ix2 r k) := by
  show XS m ρ (peer c) _ = _
  congr 1; funext a; fin_cases a <;> exact Fin.ext (by simp [ix2, hr])

/-- A choice among four by quarters, at a row of a known quarter. -/
theorem quarter_cases {α : Type} (C : Fin 4 → α) (z : α) (n : ℕ) (hn : n < 640) (h : ∀ q : Fin 4, n / 160 = q → C q = z) :
    (if n < 160 then C 0 else if n < 320 then C 1 else if n < 480 then C 2 else C 3) = z := by
  split_ifs
  · exact h 0 (by show _ = 0; omega)
  · exact h 1 (by show _ = 1; omega)
  · exact h 2 (by show _ = 2; omega)
  · exact h 3 (by show _ = 3; omega)

/-- A row of a computed quarter, in terms of the block it was cut from. -/
def rowOf (c : Dev nD) (i : Fin 2) (r : Fin 640) (d : Fin 1024) : EReal := ffn (wa m c i) (wb m c i) (fun k => XS m ρ (peer c) (ix2 r k)) d
/-- Row `j` of chunk 0 of the results is the landed row `0 + j` passed through expert 0 of the device. -/
theorem C0_row (c : Dev nD) (j : Fin 160) (r : Fin 640) (hr : r.val = 0 + j) (d : Fin 1024) : C0 m ρ c (ix2 j d) = rowOf m ρ c 0 r d := by
  refine (quarter0 _ _ _ j d).trans ?_
  rw [W10_eq, W20_eq, rowOf]
  exact congrArg (fun x => ffn _ _ x d) (funext fun k => XQ_row m ρ c _ _ j r hr k)
/-- Row `j` of chunk 1 of the results is the landed row `160 + j` passed through expert 0 of the device. -/
theorem C1_row (c : Dev nD) (j : Fin 160) (r : Fin 640) (hr : r.val = 160 + j) (d : Fin 1024) : C1 m ρ c (ix2 j d) = rowOf m ρ c 0 r d := by
  refine (quarter1 _ _ _ j d).trans ?_
  rw [W10_eq, W20_eq, rowOf]
  exact congrArg (fun x => ffn _ _ x d) (funext fun k => XQ_row m ρ c _ _ j r hr k)
/-- Row `j` of chunk 2 of the results is the landed row `320 + j` passed through expert 1 of the device. -/
theorem C2_row (c : Dev nD) (j : Fin 160) (r : Fin 640) (hr : r.val = 320 + j) (d : Fin 1024) : C2 m ρ c (ix2 j d) = rowOf m ρ c 1 r d := by
  refine (quarter2 _ _ _ j d).trans ?_
  rw [W11_eq, W21_eq, rowOf]
  exact congrArg (fun x => ffn _ _ x d) (funext fun k => XQ_row m ρ c _ _ j r hr k)
/-- Row `j` of chunk 3 of the results is the landed row `480 + j` passed through expert 1 of the device. -/
theorem C3_row (c : Dev nD) (j : Fin 160) (r : Fin 640) (hr : r.val = 480 + j) (d : Fin 1024) : C3 m ρ c (ix2 j d) = rowOf m ρ c 1 r d := by
  refine (quarter3 _ _ _ j d).trans ?_
  rw [W11_eq, W21_eq, rowOf]
  exact congrArg (fun x => ffn _ _ x d) (funext fun k => XQ_row m ρ c _ _ j r hr k)

/-- Row `r` of the returned block is row `r` of the received one through the expert of its half. -/
theorem RO_row (c : Dev nD) (r : Fin 640) (d : Fin 1024) (i : Fin 2) (hi : i.val = r / 320) :
    RO m ρ c (ix2 r d) = rowOf m ρ c i r d := by
  have hx : qix (ix2 r d) = ix2 ⟨r.val % 160, Nat.mod_lt _ (by decide)⟩ d := by funext a; fin_cases a <;> rfl
  have hr := r.isLt
  have key : ∀ z : S160x1024.Idx, z = ix2 ⟨r.val % 160, Nat.mod_lt _ (by decide)⟩ d →
      (if r.val < 160 then C0 m ρ c z else if r.val < 320 then C1 m ρ c z else if r.val < 480 then C2 m ρ c z else C3 m ρ c z) = rowOf m ρ c i r d := by
    intro z hz
    subst hz
    refine quarter_cases (fun q : Fin 4 => (![C0 m ρ c, C1 m ρ c, C2 m ρ c, C3 m ρ c] : Fin 4 → Vec Ideal S160x1024 .bf16) q _) _ r.val hr ?_
    intro q hq
    fin_cases q
    · have hq : r.val / 160 = 0 := hq
      have h : i = 0 := Fin.ext (by rw [hi]; show _ = 0; omega)
      subst h
      exact C0_row m ρ c _ r (by show r.val = 0 + r.val % 160; omega) d
    · have hq : r.val / 160 = 1 := hq
      have h : i = 0 := Fin.ext (by rw [hi]; show _ = 0; omega)
      subst h
      exact C1_row m ρ c _ r (by show r.val = 160 + r.val % 160; omega) d
    · have hq : r.val / 160 = 2 := hq
      have h : i = 1 := Fin.ext (by rw [hi]; show _ = 1; omega)
      subst h
      exact C2_row m ρ c _ r (by show r.val = 320 + r.val % 160; omega) d
    · have hq : r.val / 160 = 3 := hq
      have h : i = 1 := Fin.ext (by rw [hi]; show _ = 1; omega)
      subst h
      exact C3_row m ρ c _ r (by show r.val = 480 + r.val % 160; omega) d
  exact key _ hx

/-- A half of the returned block. -/
theorem RH_row (c : Dev nD) (o : ℕ) (ho) (j : Fin 320) (r : Fin 640) (hr : r.val = o + j) (k : Fin 1024) :
    RH m ρ c o ho (ix2 j k) = RO m ρ (peer c) (ix2 r k) := by
  show RO m ρ (peer c) _ = _
  congr 1; funext a; fin_cases a <;> exact Fin.ext (by simp [ix2, hr])

section
variable (A : Dev nD → Fin 1024 → ℕ) (ha : ∀ c t, astg m ρ c (ix1 t) = BitVec.ofNat 32 (A c t)) (hA : ∀ c, Fits (A c))
include ha hA

/-- A dispatch matrix of the device's own tokens. -/
theorem selL_at (c : Dev nD) (t : Fin 1024) (j : Fin 640) : selL m ρ c (ix2 t j) = if (j : ℕ) = pick (A c) (mid c) t then (1 : EReal) else 0 := by
  rw [selL, y5_eq]
  exact selL_apply _ _ (ha c) (hA c) _ (mid_lt c) t j
/-- A dispatch matrix of the tokens for the peer. -/
theorem selS_at (c : Dev nD) (t : Fin 1024) (j : Fin 640) : selS m ρ c (ix2 t j) = if (j : ℕ) = pick (A c) (1 - mid c) t then (1 : EReal) else 0 := by
  rw [selS, y5_eq]
  exact selS_apply _ _ (ha c) (hA c) _ (mid_lt c) t j

/-- The device's own block holds its own tokens at their slots. -/
theorem XL_row (c : Dev nD) (t : Fin 1024) (ht : A c t / 2 = mid c) (r : Fin 640) (hr : (r : ℕ) = slot (A c) t) (k : Fin 1024) :
    XL m ρ c (ix2 r k) = xstg m ρ c (ix2 t k) := by
  rw [XL, pack_own]
  simp only [selL_at m ρ A ha hA]
  exact pack_sum (hA c) (mid c) (fun s => xstg m ρ c (ix2 s k)) t ht r hr
/-- The block for the peer holds the peer's tokens at their slots. -/
theorem XS_row (c : Dev nD) (t : Fin 1024) (ht : A c t / 2 = 1 - mid c) (r : Fin 640) (hr : (r : ℕ) = slot (A c) t) (k : Fin 1024) :
    XS m ρ c (ix2 r k) = xstg m ρ c (ix2 t k) := by
  rw [XS, pack_peer]
  have h := selS_at m ρ A ha hA c
  unfold selS at h
  simp only [h]
  exact pack_sum (hA c) (1 - mid c) (fun s => xstg m ρ c (ix2 s k)) t ht r hr

/-- The local part of the result. -/
theorem O1_at (c : Dev nD) (t d : Fin 1024) (i : Fin 2) (hi : i.val = A c t % 2) :
    O1 m ρ c (ix2 t d) = if A c t / 2 = mid c then ffn (wa m c i) (wb m c i) (fun k => xstg m ρ c (ix2 t k)) d else 0 := by
  rw [O1, own_out]
  simp only [selL_at m ρ A ha hA, own_first, W10_eq, W20_eq, W11_eq, W21_eq]
  rw [unpack_sum]
  have hs := slot_lt (hA c) t
  have hk := rank_lt (hA c) t
  have hd : slot (A c) t = A c t % 2 * 320 + rank (A c) t := rfl
  by_cases h : A c t / 2 = mid c
  · rw [if_pos h]
    have hp : pick (A c) (mid c) t = slot (A c) t := if_pos h
    by_cases hl : pick (A c) (mid c) t < 320
    · rw [dif_pos hl, show i = 0 from Fin.ext (by rw [hi]; show _ = 0; omega)]
      congr 1; funext k
      exact XL_row m ρ A ha hA c t h _ hp k
    · rw [dif_neg hl, dif_pos (show _ < 320 by omega), show i = 1 from Fin.ext (by rw [hi]; show _ = 1; omega)]
      congr 1; funext k
      exact XL_row m ρ A ha hA c t h _ (by show 320 + (pick _ _ _ - 320) = _; omega) k
  · have hp : pick (A c) (mid c) t = 640 := if_neg h
    rw [if_neg h, dif_neg (by omega), dif_neg (by omega)]

/-- The kernel's result at row `t`: the network of the token's expert on the token, on the device that holds it. -/
theorem OUT_at (c : Dev nD) (t d : Fin 1024) (i : Fin 2) (hi : i.val = A c t % 2) (c' : Dev nD)
    (hc : c' = if A c t / 2 = mid c then c else peer c) :
    OUT m ρ c (ix2 t d) = ffn (wa m c' i) (wb m c' i) (fun k => xstg m ρ c (ix2 t k)) d := by
  rw [OUT, O2, back_out, O1_at m ρ A ha hA c t d i hi, add_assoc]
  have hR : ∀ (r : Fin 640) (i : Fin 2), i.val = r.val / 320 → RO m ρ (peer c) (ix2 r d)
      = ffn (wa m (peer c) i) (wb m (peer c) i) (fun k => XS m ρ c (ix2 r k)) d := by
    intro r i hi
    have := RO_row m ρ (peer c) r d i hi
    rwa [rowOf, peer_peer] at this
  simp only [selS_at m ρ A ha hA]
  rw [unpack_sum]
  have hs := slot_lt (hA c) t
  have hk := rank_lt (hA c) t
  have hd : slot (A c) t = A c t % 2 * 320 + rank (A c) t := rfl
  have hlt := (hA c).lt t
  have hm := mid_lt c
  by_cases h : A c t / 2 = mid c
  · have hp : pick (A c) (1 - mid c) t = 640 := if_neg (by omega)
    rw [if_pos h] at hc ⊢
    rw [hc, dif_neg (by omega), dif_neg (by omega), add_zero]
  · have h' : A c t / 2 = 1 - mid c := by omega
    have hp : pick (A c) (1 - mid c) t = slot (A c) t := if_pos h'
    rw [if_neg h] at hc ⊢
    rw [hc, zero_add]
    by_cases hl : pick (A c) (1 - mid c) t < 320
    · rw [dif_pos hl, RH_row m ρ c 0 _ _ ⟨slot (A c) t, hs⟩ (by show slot _ _ = 0 + pick _ _ _; omega), hR _ i (by show i.val = slot _ _ / 320; omega)]
      congr 1; funext k
      exact XS_row m ρ A ha hA c t h' _ rfl k
    · rw [dif_neg hl, dif_pos (show _ < 320 by omega), RH_row m ρ c 320 _ _ ⟨slot (A c) t, hs⟩ (by show slot _ _ = 320 + (pick _ _ _ - 320); omega), hR _ i (by show i.val = slot _ _ / 320; omega)]
      congr 1; funext k
      exact XS_row m ρ A ha hA c t h' _ rfl k
end

end Cert.KernelIdeal.Moe
-- ==== Proof.Whole.lean ====
/-
What the reference computes over the extended reals: row `r` of its result is the feed-forward network of the expert
token `r` names, applied to the token.
-/
module

public import proofs.«01_k».proof.Proof.Experts
public import proofs.«01_k».proof.Proof.Gen.ReferenceIdeal
public import proofs.«01_k».proof.Proof.Gen.ReferenceIdeal.Read

@[expose] public section

noncomputable section

namespace Cert.KernelIdeal.Moe

open Idealize.ShloMosaic Cert.ReferenceIdeal Cert.ReferenceIdeal.Read
open scoped BigOperators

variable (x0 : (⟨Cert.ReferenceIdeal.S2048x1024, .f32⟩ : BufTy).Contents (Elt Ideal)) (x1 : (⟨Cert.ReferenceIdeal.S2048, .i32⟩ : BufTy).Contents (Elt Ideal))
  (x2 : (⟨Cert.ReferenceIdeal.S4x1024x2048, .f32⟩ : BufTy).Contents (Elt Ideal)) (x3 : (⟨Cert.ReferenceIdeal.S4x2048x1024, .f32⟩ : BufTy).Contents (Elt Ideal))

/-- The network of expert `e` of the whole weights on row `r` of the whole tokens. -/
def whole (e : Fin 4) (r : Fin 2048) (d : Fin 1024) : EReal :=
  ffn (fun k f => x2 (ix3 e k f)) (fun f d => x3 (ix3 e f d)) (fun k => x0 (ix2 r k)) d

/-- The stage of the plain layer for expert 0 is that expert applied to every token. -/
theorem whole0 (r : Fin 2048) (d : Fin 1024) : val_main_v11 (F := Ideal) x0 x2 x3 (ix2 r d) = whole x0 x2 x3 0 r d := by
  pointwise [val_main_v11, val_main_v10, val_main_v9, val_main_v7, val_main_v6, val_main_v5, val_main_v4, val_main_v3, val_main_cst_0]
  rfl
/-- The stage of the plain layer for expert 1 is that expert applied to every token. -/
theorem whole1 (r : Fin 2048) (d : Fin 1024) : val_main_v23 (F := Ideal) x0 x2 x3 (ix2 r d) = whole x0 x2 x3 1 r d := by
  pointwise [val_main_v23, val_main_v22, val_main_v21, val_main_v19, val_main_v18, val_main_v17, val_main_v16, val_main_v15, val_main_cst_2]
  rfl
/-- The stage of the plain layer for expert 2 is that expert applied to every token. -/
theorem whole2 (r : Fin 2048) (d : Fin 1024) : val_main_v35 (F := Ideal) x0 x2 x3 (ix2 r d) = whole x0 x2 x3 2 r d := by
  pointwise [val_main_v35, val_main_v34, val_main_v33, val_main_v31, val_main_v30, val_main_v29, val_main_v28, val_main_v27, val_main_cst_4]
  rfl
/-- The stage of the plain layer for expert 3 is that expert applied to every token. -/
theorem whole3 (r : Fin 2048) (d : Fin 1024) : val_main_v47 (F := Ideal) x0 x2 x3 (ix2 r d) = whole x0 x2 x3 3 r d := by
  pointwise [val_main_v47, val_main_v46, val_main_v45, val_main_v43, val_main_v42, val_main_v41, val_main_v40, val_main_v39, val_main_cst_6]
  rfl

/-- The reference's row of a token that names expert `e` is that expert's network on the token. -/
theorem reference_at (r : Fin 2048) (d : Fin 1024) (e : Fin 4) (he : x1 (ix1 r) = BitVec.ofNat 32 e) :
    val_main_v48 (F := Ideal) x0 x1 x2 x3 (ix2 r d) = whole x0 x2 x3 e r d := by
  pointwise [val_main_v48, val_main_v36, val_main_v24, val_main_v12, val_main_call3_v0, val_main_call2_v0, val_main_call1_v0, val_main_call0_v0,
    val_main_v44, val_main_v38, val_main_v37, val_main_c_5, val_main_v32, val_main_v26, val_main_v25, val_main_c_3,
    val_main_v20, val_main_v14, val_main_v13, val_main_c_1, val_main_v8, val_main_v2, val_main_v1, val_main_c]
  rw [he, whole0, whole1, whole2, whole3]
  fin_cases e <;> rfl

end Cert.KernelIdeal.Moe
-- ==== Proof.Room.lean ====
/-
What the precondition says of a device's assignments: every token names one of the four experts, and no expert is
named more often than it has room.
-/
module

public import proofs.«01_k».proof.Proof.Slots
public import proofs.«01_k».proof.Proof.Gen.Pre_fits_KernelIdeal
public import Idealize.ShloMosaic.Lib.ReduceAll
public import Idealize.ShloMosaic.Lib.IndicatorCount

@[expose] public section

noncomputable section

namespace Cert.KernelIdeal.Moe

open Idealize.ShloMosaic Cert.Pre_fits_KernelIdeal Cert.Pre_fits_KernelIdeal.Facts

/-- The entry of the one-hot matrix of the assignments. -/
def hot (x : IVec S1024 32) : IVec S1024x4 1 :=
  cmpi .eq (broadcastInDim S1024x4 ![0, 1] bcast_S1024x1_S1024x4_0_1 (broadcastInDim S1024x1 ![0] bcast_S1024_S1024x1_0 x))
    (broadcastInDim S1024x4 ![0, 1] bcast_S1x4_S1024x4_0_1 (broadcastInDim S1x4 ![1] bcast_S4_S1x4_1 (iotaInDim S4 32 0)))
/-- It is one exactly where the token names the expert. -/
theorem hot_apply (x : IVec S1024 32) (t : Fin 1024) (e : Fin 4) : hot x (ix2 t e) = IntOp.cmpi .eq (x (ix1 t)) (BitVec.ofNat 32 e) := by
  pointwise [hot]

/-- The rows of a column are its indices. -/
theorem column (e : Fin 4) : (Finset.univ.filter fun i => reducesTo_S1024x4_S4_d0.drop i = ix1 e) = Finset.univ.image fun t : Fin 1024 => (ix2 t e : S1024x4.Idx) := by
  ext i
  simp only [Finset.mem_filter, Finset.mem_univ, true_and, Finset.mem_image]
  constructor
  · intro h
    have h1 := congrArg Fin.val (congrFun h 0)
    rw [Shape.ReducesTo.drop_apply_val_of_eq reducesTo_S1024x4_S4_d0 i 0 1] at h1
    refine ⟨i 0, ?_⟩
    funext a; fin_cases a
    · rfl
    · exact Fin.ext h1.symm
  · rintro ⟨t, rfl⟩
    funext a
    refine Fin.ext ?_
    fin_cases a
    exact Shape.ReducesTo.drop_apply_val_of_eq reducesTo_S1024x4_S4_d0 (ix2 t e) 0 1

/-- The count the precondition takes of an expert is the number of tokens that name it. -/
theorem count_eq (x : IVec S1024 32) (e : Fin 4) :
    Host.reduce IntOp.addi ((extui 32 · natLt_1_32) (hot x)) (constantI S_ 32 0#32) reducesTo_S1024x4_S4_d0 h_S_ (ix1 e)
      = BitVec.ofNat 32 (Finset.univ.filter fun t : Fin 1024 => x (ix1 t) = BitVec.ofNat 32 e).card := by
  rw [show ((extui 32 · natLt_1_32) (hot x)) = fun k => (hot x k).setWidth 32 from rfl, Host.reduce_eq_fold, column,
    show constantI S_ 32 0#32 (Shape.Idx.first h_S_) = 0#32 from rfl, IndicatorCount.fold_addi_setWidth_eq_card (hot x)]
  refine congrArg (BitVec.ofNat 32) ?_
  rw [Finset.filter_image, Finset.card_image_of_injOn]
  · refine congrArg Finset.card (Finset.filter_congr fun t _ => ?_)
    rw [hot_apply]
    by_cases h : x (ix1 t) = BitVec.ofNat 32 e
    · simp [IntOp.cmpi, h]
    · have : IntOp.cmpi .eq (x (ix1 t)) (BitVec.ofNat 32 e) = 0#1 := by
        show BitVec.ofBool (x (ix1 t) == BitVec.ofNat 32 e) = 0#1
        rw [beq_eq_false_iff_ne.mpr h]; rfl
      rw [this]; simp [h]
  · intro s _ t _ h
    exact congrFun h 0

/-- The precondition, read. -/
theorem fits_of_pre (a0 : FVec Ideal S1024x1024 .f32) (x : IVec S1024 32) (a2 : FVec Ideal S2x1024x2048 .f32) (a3 : FVec Ideal S2x2048x1024 .f32)
    (h : fn a0 x a2 a3 = fun _ => 1#1) : Fits fun t => (x (ix1 t)).toNat := by
  have h0 := congrFun h (fun a => a.elim0)
  obtain ⟨hr, hc⟩ := IntOp.andi_eq_one.1 h0
  have hlt : ∀ t : Fin 1024, (x (ix1 t)).toNat < 4 := by
    intro t
    have h1 := Host.reduce_andi_all _ _ _ _ _ hr (ix1 t)
    obtain ⟨h2, h3⟩ := IntOp.andi_eq_one.1 h1
    have h4 : (0#32 : BitVec 32).toInt ≤ (x (ix1 t)).toInt := IntOp.cmpi_sge.1 h2
    have h5 : (x (ix1 t)).toInt < (4#32 : BitVec 32).toInt := IntOp.cmpi_slt.1 h3
    rw [show (0#32 : BitVec 32).toInt = 0 from rfl] at h4
    rw [show (4#32 : BitVec 32).toInt = 4 from rfl] at h5
    rw [BitVec.toInt_eq_toNat_cond] at h4 h5
    have := (x (ix1 t)).isLt
    split at h4 <;> omega
  refine ⟨hlt, fun e he => ?_⟩
  have h1 := Host.reduce_andi_all _ _ _ _ _ hc (ix1 ⟨e, he⟩)
  have h2 := IntOp.cmpi_sle.1 h1
  have h3 : (broadcastInDim S4 ![] bcast_S_S4 (constantI S_ 32 320#32) (ix1 ⟨e, he⟩)).toInt = 320 := rfl
  have h4 := (congrArg BitVec.toInt (count_eq x ⟨e, he⟩)).symm.le.trans (h2.trans h3.le)
  change (BitVec.ofNat 32 (Finset.univ.filter fun t : Fin 1024 => x (ix1 t) = BitVec.ofNat 32 e).card).toInt ≤ 320 at h4
  have hn : (Finset.univ.filter fun t : Fin 1024 => x (ix1 t) = BitVec.ofNat 32 e).card ≤ 1024 :=
    (Finset.card_le_univ _).trans_eq (Fintype.card_fin 1024)
  rw [BitVec.toInt_eq_toNat_of_lt (by rw [BitVec.toNat_ofNat]; omega), BitVec.toNat_ofNat] at h4
  refine le_trans (Finset.card_le_card fun t ht => ?_) (show (Finset.univ.filter fun t : Fin 1024 => x (ix1 t) = BitVec.ofNat 32 e).card ≤ 320 by omega)
  simp only [Finset.mem_filter, Finset.mem_univ, true_and] at ht ⊢
  rw [← ht, BitVec.ofNat_toNat, BitVec.setWidth_eq]

end Cert.KernelIdeal.Moe
-- ==== Proof.Result.lean ====
/-
The value claim: every device's result is its block of the reference's result.
-/
module

public import proofs.«01_k».proof.Proof.Whole
public import proofs.«01_k».proof.Proof.Room
public import proofs.«01_k».proof.Proof.Frames

@[expose] public section

noncomputable section

namespace Cert.KernelIdeal.Moe

open Cert.KernelIdeal Cert.KernelIdeal.Gen Idealize.ShloMosaic Idealize.ShloMosaic.TcCoe Idealize.SL.Sem
open Idealize.ShloMosaic.Pipeline

/-! ## The blocks the launch stages are whole arrays -/

/-- A block that is its whole array keeps every coordinate. -/
theorem emb_0 (t : Fin grid0.N) (j) : (win0_0.blk t).view.emb j = j :=
  funext fun a => Fin.ext (Window.rect_emb_val_of_index_zero win0_0 t a (by fin_cases a <;> rfl) j)
/-- The window of the assignments is the whole array. -/
theorem emb_1 (t : Fin grid0.N) (j) : (win0_1.blk t).view.emb j = j :=
  funext fun a => Fin.ext (Window.rect_emb_val_of_index_zero win0_1 t a (by fin_cases a <;> rfl) j)
/-- The window of the result is the whole array. -/
theorem emb_2 (t : Fin grid0.N) (j) : (win0_2.blk t).view.emb j = j :=
  funext fun a => Fin.ext (Window.rect_emb_val_of_index_zero win0_2 t a (by fin_cases a <;> rfl) j)

section
variable {F : FTy → Type} [FloatOps F] (m : (ℓ : Loc nD τ sig) → Buf (Elt F) ℓ) (ρ : Dev nD → PrngReg)

/-- The staged tokens and assignments are the device's arguments. -/
theorem xstg_eq (c : Dev nD) : xstg m ρ c = m ((c : Thread nD τ).loc main_arg0) :=
  funext fun j => congrArg (m ((c : Thread nD τ).loc main_arg0)) (emb_0 t0_0 j)
/-- The staged assignments are the argument. -/
theorem astg_eq (c : Dev nD) : astg m ρ c = m ((c : Thread nD τ).loc main_arg1) :=
  funext fun j => congrArg (m ((c : Thread nD τ).loc main_arg1)) (emb_1 t0_0 j)
/-- The device's result array ends as the body's output block. -/
theorem finalA_2 (c : Dev nD) : finalA m ρ c (2 : Fin 3) = OUT m ρ c := by
  funext j
  have h := (dats m ρ 0 c).arrAt_emb_eq_flushed (2 : Fin 3) (fun t t' _ _ hne => absurd ((fin_N0 t).trans (fin_N0 t').symm) hne) t0_0 (flush0_2 _) j
  rw [show ((cfg0.win 2).blk t0_0).view.emb j = j from emb_2 _ j] at h
  exact h
end

/-! ## The blocks of the whole arrays -/

/-- A device's block along an axis cut by the middle mesh axis is the one its middle coordinate names. -/
theorem lin_mid (c : Dev nD) : Layout.meshLin [2, 2, 4] c.val [1] = mid c := by revert c; decide

section
variable {α : Type}

/-- Row `t` of a device's block of a 2048-row array is row `1024 y + t` of the array. -/
theorem rows_at (c : Dev nD) (v : (⟨2, ![2048, 1024]⟩ : Shape).Idx → α) (t d : Fin 1024) (r : Fin 2048) (hr : r.val = mid c * 1024 + t) :
    Layout.blockN ⟨2, ![1024, 1024]⟩ ⟨2, ![2048, 1024]⟩ (Layout.meshBlock [2, 2, 4] ![[1], []] c) v (by decide) (ix2 t d) = v (ix2 r d) := by
  rw [Layout.blockN_apply]
  congr 1; funext a; refine Fin.ext ?_
  fin_cases a
  · exact (congrArg (fun n => n * 1024 + t.val) (lin_mid c)).trans hr.symm
  · exact (congrArg (· + d.val) (Nat.zero_mul 1024)).trans (Nat.zero_add _)
/-- Entry `t` of a device's block of the assignments is entry `1024 y + t`. -/
theorem tokens_at (c : Dev nD) (v : (⟨1, ![2048]⟩ : Shape).Idx → α) (t : Fin 1024) (r : Fin 2048) (hr : r.val = mid c * 1024 + t) :
    Layout.blockN ⟨1, ![1024]⟩ ⟨1, ![2048]⟩ (Layout.meshBlock [2, 2, 4] ![[1]] c) v (by decide) (ix1 t) = v (ix1 r) := by
  rw [Layout.blockN_apply]
  congr 1; funext a; refine Fin.ext ?_
  fin_cases a
  exact (congrArg (fun n => n * 1024 + t.val) (lin_mid c)).trans hr.symm
/-- Expert `i` of a device is expert `2 y + i` of the first weights. -/
theorem first_at (c : Dev nD) (v : (⟨3, ![4, 1024, 2048]⟩ : Shape).Idx → α) (i : Fin 2) (k : Fin 1024) (f : Fin 2048) (e : Fin 4) (he : e.val = mid c * 2 + i) :
    Layout.blockN ⟨3, ![2, 1024, 2048]⟩ ⟨3, ![4, 1024, 2048]⟩ (Layout.meshBlock [2, 2, 4] ![[1], [], []] c) v (by decide) (ix3 i k f) = v (ix3 e k f) := by
  rw [Layout.blockN_apply]
  congr 1; funext a; refine Fin.ext ?_
  fin_cases a
  · exact (congrArg (fun n => n * 2 + i.val) (lin_mid c)).trans he.symm
  · exact (congrArg (· + k.val) (Nat.zero_mul 1024)).trans (Nat.zero_add _)
  · exact (congrArg (· + f.val) (Nat.zero_mul 2048)).trans (Nat.zero_add _)
/-- Expert `i` of a device is expert `2 y + i` of the second weights. -/
theorem second_at (c : Dev nD) (v : (⟨3, ![4, 2048, 1024]⟩ : Shape).Idx → α) (i : Fin 2) (f : Fin 2048) (d : Fin 1024) (e : Fin 4) (he : e.val = mid c * 2 + i) :
    Layout.blockN ⟨3, ![2, 2048, 1024]⟩ ⟨3, ![4, 2048, 1024]⟩ (Layout.meshBlock [2, 2, 4] ![[1], [], []] c) v (by decide) (ix3 i f d) = v (ix3 e f d) := by
  rw [Layout.blockN_apply]
  congr 1; funext a; refine Fin.ext ?_
  fin_cases a
  · exact (congrArg (fun n => n * 2 + i.val) (lin_mid c)).trans he.symm
  · exact (congrArg (· + f.val) (Nat.zero_mul 2048)).trans (Nat.zero_add _)
  · exact (congrArg (· + d.val) (Nat.zero_mul 1024)).trans (Nat.zero_add _)
end

/-! ## The claim -/

section
variable (m : (ℓ : Loc nD τ sig) → Buf (Elt Ideal) ℓ) (ρ : Dev nD → PrngReg)
  (x0 : (⟨Cert.ReferenceIdeal.S2048x1024, .f32⟩ : BufTy).Contents (Elt Ideal)) (x1 : (⟨Cert.ReferenceIdeal.S2048, .i32⟩ : BufTy).Contents (Elt Ideal))
  (x2 : (⟨Cert.ReferenceIdeal.S4x1024x2048, .f32⟩ : BufTy).Contents (Elt Ideal)) (x3 : (⟨Cert.ReferenceIdeal.S4x2048x1024, .f32⟩ : BufTy).Contents (Elt Ideal))
  (h0 : ∀ c : Dev nD, m ((c : Thread nD τ).loc main_arg0) = Layout.blockN ⟨2, ![1024, 1024]⟩ ⟨2, ![2048, 1024]⟩ (Layout.meshBlock [2, 2, 4] ![[1], []] c) x0)
  (h1 : ∀ c : Dev nD, m ((c : Thread nD τ).loc main_arg1) = Layout.blockN ⟨1, ![1024]⟩ ⟨1, ![2048]⟩ (Layout.meshBlock [2, 2, 4] ![[1]] c) x1)
  (h2 : ∀ c : Dev nD, m ((c : Thread nD τ).loc main_arg2) = Layout.blockN ⟨3, ![2, 1024, 2048]⟩ ⟨3, ![4, 1024, 2048]⟩ (Layout.meshBlock [2, 2, 4] ![[1], [], []] c) x2)
  (h3 : ∀ c : Dev nD, m ((c : Thread nD τ).loc main_arg3) = Layout.blockN ⟨3, ![2, 2048, 1024]⟩ ⟨3, ![4, 2048, 1024]⟩ (Layout.meshBlock [2, 2, 4] ![[1], [], []] c) x3)
  (hA : ∀ c : Dev nD, Fits fun t => (astg m ρ c (ix1 t)).toNat)
include h0 h1 h2 h3 hA

/-- Every device's output block is its block of the reference's result. -/
theorem OUT_eq (c : Dev nD) : OUT m ρ c = Layout.blockN ⟨2, ![1024, 1024]⟩ ⟨2, ![2048, 1024]⟩ (Layout.meshBlock [2, 2, 4] ![[1], []] c)
    (Cert.ReferenceIdeal.Read.val_main_v48 (F := Ideal) x0 x1 x2 x3) := by
  have key : ∀ t d : Fin 1024, OUT m ρ c (ix2 t d) = Layout.blockN ⟨2, ![1024, 1024]⟩ ⟨2, ![2048, 1024]⟩ (Layout.meshBlock [2, 2, 4] ![[1], []] c)
      (Cert.ReferenceIdeal.Read.val_main_v48 (F := Ideal) x0 x1 x2 x3) (by decide) (ix2 t d) := by
    intro t d
    have hm := mid_lt c
    have ht := t.isLt
    have hlt : (astg m ρ c (ix1 t)).toNat < 4 := (hA c).lt t
    generalize hr : (⟨mid c * 1024 + t, by omega⟩ : Fin 2048) = r
    have hr : r.val = mid c * 1024 + t := by rw [← hr]
    generalize hi : (⟨(astg m ρ c (ix1 t)).toNat % 2, by omega⟩ : Fin 2) = i
    have hi : i.val = (astg m ρ c (ix1 t)).toNat % 2 := by rw [← hi]
    generalize he : (⟨(astg m ρ c (ix1 t)).toNat, hlt⟩ : Fin 4) = e
    have he : e.val = (astg m ρ c (ix1 t)).toNat := by rw [← he]
    generalize hc : (if (astg m ρ c (ix1 t)).toNat / 2 = mid c then c else peer c) = c'
    have hmid : mid c' = (astg m ρ c (ix1 t)).toNat / 2 := by
      rw [← hc]
      split
      · next h => exact h.symm
      · rw [mid_peer]; omega
    have hw : e.val = mid c' * 2 + i := by omega
    have ha : x1 (ix1 r) = BitVec.ofNat 32 e := by
      rw [he, ← tokens_at c x1 t r hr, ← h1 c, ← astg_eq m ρ c, BitVec.ofNat_toNat, BitVec.setWidth_eq]
    rw [rows_at c _ t d r hr, reference_at x0 x1 x2 x3 r d e ha,
      OUT_at m ρ (fun c t => (astg m ρ c (ix1 t)).toNat) (fun c t => by rw [BitVec.ofNat_toNat, BitVec.setWidth_eq]) hA c t d i hi c' hc.symm, whole]
    have e1 : wa m c' i = fun k f => x2 (ix3 e k f) := by
      funext k f
      exact (congrFun (h2 c') (ix3 i k f)).trans (first_at c' x2 i k f e hw)
    have e2 : wb m c' i = fun f d => x3 (ix3 e f d) := by
      funext f d
      exact (congrFun (h3 c') (ix3 i f d)).trans (second_at c' x3 i f d e hw)
    have e3 : (fun k => xstg m ρ c (ix2 t k)) = fun k => x0 (ix2 r k) := by
      funext k
      exact (congrFun ((xstg_eq m ρ c).trans (h0 c)) (ix2 t k)).trans (rows_at c x0 t k r hr)
    rw [e1, e2, e3]
  funext j
  have hj : j = ix2 (j 0) (j 1) := by funext a; fin_cases a <;> rfl
  rw [hj]
  exact key (j 0) (j 1)
end

set_option maxRecDepth 65536 in
/-- Under the precondition every device's result is its block of the reference's result, and all arguments are kept. -/
theorem algebraic : Cert.algebraic_KernelIdeal_ReferenceIdeal_pre_fits_KernelIdeal := by
  intro m g m' g' hpre hargs
  let arg (b : Ref Cert.ReferenceIdeal.sig .tc) := m' (((0 : Dev Cert.ReferenceIdeal.nD).tc : Thread Cert.ReferenceIdeal.nD Cert.ReferenceIdeal.τ).loc b)
  refine ⟨Cert.ReferenceIdeal.Read.val_main_v48 (F := Ideal) (arg Cert.ReferenceIdeal.main_arg0) (arg Cert.ReferenceIdeal.main_arg1)
    (arg Cert.ReferenceIdeal.main_arg2) (arg Cert.ReferenceIdeal.main_arg3), ?_, ?_⟩
  rotate_left
  · refine (θ_run _ _ _).mono (fun r h => ?_) (Cert.ReferenceIdeal.Value.run (F := Ideal) m' g')
    obtain ⟨h1, h2⟩ := h 0
    exact ⟨h1.trans (Cert.ReferenceIdeal.Read.val_main_v48_eq ..), h2⟩
  · refine (θ_run _ _ _).mono (fun r h => ?_) (run_main (F := Ideal) m g)
    intro c
    have hA : ∀ c : Dev nD, Fits fun t => (astg m g c (ix1 t)).toNat := by
      intro c
      rw [astg_eq m g c]
      exact fits_of_pre _ _ _ _ (hpre c)
    exact ⟨(((h.1 c).1 (2 : Fin 3)).trans (finalA_2 m g c)).trans
      (OUT_eq m g _ _ _ _ (fun c => (hargs c).1) (fun c => (hargs c).2.1) (fun c => (hargs c).2.2.1) (fun c => (hargs c).2.2.2) hA c), args_kept m g r h.1 c⟩

end Cert.KernelIdeal.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_fits_KernelIdeal
public import proofs.«01_k».proof.Proof.Gen.Pre_fits_ReferenceIdeal
public import proofs.«01_k».proof.Proof.Gen.Kernel.Launch
public import proofs.«01_k».proof.Proof.Gen.Kernel.Frame
public import proofs.«01_k».proof.Proof.Frames
public import proofs.«01_k».proof.Proof.Result

@[expose] public section

noncomputable section

namespace Cert.Proof

open Cert.KernelIdeal.Moe

/-- Everything the statement claims. -/
theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts, frame_kernel, frame_ideal, frame_ideal_fits,
  frame_reference, frame_reference_fits, trivial, algebraic⟩

end Cert.Proof

end
